-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  IdealRules.named_const.Statement Cert.KernelIdeal.κ "taken" .f32 0xFF61B1E6#32 ⊥
  ∧ IdealRules.named_const.Statement Cert.KernelIdeal.κ "inv_sqrt_128" .f32 0x3DB504F3#32 (((Real.sqrt 128)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v166) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S32x512x3 : Shape := ⟨3, ![32, 512, 3]⟩
abbrev S6x64 : Shape := ⟨2, ![6, 64]⟩
abbrev S3x64 : Shape := ⟨2, ![3, 64]⟩
abbrev S128x64 : Shape := ⟨2, ![128, 64]⟩
abbrev S128x128 : Shape := ⟨2, ![128, 128]⟩
abbrev S3x128 : Shape := ⟨2, ![3, 128]⟩
abbrev S_ : Shape := ⟨0, ![]⟩

class Facts : Prop where
  bcast_S_S32x512x3 : S_.BroadcastsInDim S32x512x3 (![] : Fin 0 → Fin S32x512x3.rank)
  reducesTo_S32x512x3_S_d0_1_2 : S32x512x3.ReducesTo [0, 1, 2] S_
  h_S_ : 0 < S_.numel
  bcast_S_S6x64 : S_.BroadcastsInDim S6x64 (![] : Fin 0 → Fin S6x64.rank)
  reducesTo_S6x64_S_d0_1 : S6x64.ReducesTo [0, 1] S_
  bcast_S_S3x64 : S_.BroadcastsInDim S3x64 (![] : Fin 0 → Fin S3x64.rank)
  reducesTo_S3x64_S_d0_1 : S3x64.ReducesTo [0, 1] S_
  bcast_S_S128x64 : S_.BroadcastsInDim S128x64 (![] : Fin 0 → Fin S128x64.rank)
  reducesTo_S128x64_S_d0_1 : S128x64.ReducesTo [0, 1] S_
  bcast_S_S128x128 : S_.BroadcastsInDim S128x128 (![] : Fin 0 → Fin S128x128.rank)
  reducesTo_S128x128_S_d0_1 : S128x128.ReducesTo [0, 1] S_
  bcast_S_S3x128 : S_.BroadcastsInDim S3x128 (![] : Fin 0 → Fin S3x128.rank)
  reducesTo_S3x128_S_d0_1 : S3x128.ReducesTo [0, 1] S_

variable [Facts]

def fn_part3 {F : FTy → Type} [FloatOps F] (main_arg11 : FVec F S128x128 .f32) (main_arg12 : FVec F S3x128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128x128 .f32 := Host.absf main_arg11
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S3x128 .f32 := Host.absf main_arg12
  let main_cst_22 : FVec F S_ .f32 := constant S_ .f32 0x7F800000#32
  let main_v60 : FVec F S3x128 .f32 := broadcastInDim S3x128 ![] bcast_S_S3x128 main_cst_22
  let main_v61 : IVec S3x128 1 := cmpf .olt main_v59 main_v60
  let main_c_23 : IVec S_ 1 := constantI S_ 1 1#1
  let main_v62 : IVec S_ 1 := (fun x v => Host.reduce IntOp.andi x v reducesTo_S3x128_S_d0_1 h_S_) main_v61 main_c_23
  let main_v63 : IVec S_ 1 := andi main_v58 main_v62
  main_v63

def fn_part2 {F : FTy → Type} [FloatOps F] (main_arg7 : FVec F S128x64 .f32) (main_arg8 : FVec F S3x64 .f32) (main_arg9 : FVec F S128x128 .f32) (main_arg10 : FVec F S128x128 .f32) (main_arg11 : FVec F S128x128 .f32) (main_arg12 : FVec F S3x128 .f32) (main_v33 : IVec S_ 1) : IVec S_ 1 :=
  let main_v34 : FVec F S128x64 .f32 := Host.absf main_arg7
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S3x64 .f32 := Host.absf main_arg8
  let main_cst_14 : FVec F S_ .f32 := constant S_ .f32 0x7F800000#32
  let main_v40 : FVec F S3x64 .f32 := broadcastInDim S3x64 ![] bcast_S_S3x64 main_cst_14
  let main_v41 : IVec S3x64 1 := cmpf .olt main_v39 main_v40
  let main_c_15 : IVec S_ 1 := constantI S_ 1 1#1
  let main_v42 : IVec S_ 1 := (fun x v => Host.reduce IntOp.andi x v reducesTo_S3x64_S_d0_1 h_S_) main_v41 main_c_15
  let main_v43 : IVec S_ 1 := andi main_v38 main_v42
  let main_v44 : FVec F S128x128 .f32 := Host.absf main_arg9
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128x128 .f32 := Host.absf main_arg10
  let main_cst_18 : FVec F S_ .f32 := constant S_ .f32 0x7F800000#32
  let main_v50 : FVec F S128x128 .f32 := broadcastInDim S128x128 ![] bcast_S_S128x128 main_cst_18
  fn_part3 (F := F) main_arg11 main_arg12 main_v48 main_v49 main_v50

def fn_part1 {F : FTy → Type} [FloatOps F] (main_arg4 : FVec F S3x64 .f32) (main_arg5 : FVec F S128x64 .f32) (main_arg6 : FVec F S128x64 .f32) (main_arg7 : FVec F S128x64 .f32) (main_arg8 : FVec F S3x64 .f32) (main_arg9 : FVec F S128x128 .f32) (main_arg10 : FVec F S128x128 .f32) (main_arg11 : FVec F S128x128 .f32) (main_arg12 : FVec F S3x128 .f32) (main_v13 : IVec S_ 1) (main_v16 : IVec S6x64 1) : IVec S_ 1 :=
  let main_c_5 : IVec S_ 1 := constantI S_ 1 1#1
  let main_v17 : IVec S_ 1 := (fun x v => Host.reduce IntOp.andi x v reducesTo_S6x64_S_d0_1 h_S_) main_v16 main_c_5
  let main_v18 : IVec S_ 1 := andi main_v13 main_v17
  let main_v19 : FVec F S3x64 .f32 := Host.absf main_arg4
  let main_cst_6 : FVec F S_ .f32 := constant S_ .f32 0x7F800000#32
  let main_v20 : FVec F S3x64 .f32 := broadcastInDim S3x64 ![] bcast_S_S3x64 main_cst_6
  let main_v21 : IVec S3x64 1 := cmpf .olt main_v19 main_v20
  let main_c_7 : IVec S_ 1 := constantI S_ 1 1#1
  let main_v22 : IVec S_ 1 := (fun x v => Host.reduce IntOp.andi x v reducesTo_S3x64_S_d0_1 h_S_) main_v21 main_c_7
  let main_v23 : IVec S_ 1 := andi main_v18 main_v22
  let main_v24 : FVec F S128x64 .f32 := Host.absf main_arg5
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S128x64 .f32 := Host.absf main_arg6
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S32x512x3 .f32) (main_arg1 : FVec F S6x64 .f32) (main_arg2 : FVec F S6x64 .f32) (main_arg3 : FVec F S6x64 .f32) (main_arg4 : FVec F S3x64 .f32) (main_arg5 : FVec F S128x64 .f32) (main_arg6 : FVec F S128x64 .f32) (main_arg7 : FVec F S128x64 .f32) (main_arg8 : FVec F S3x64 .f32) (main_arg9 : FVec F S128x128 .f32) (main_arg10 : FVec F S128x128 .f32) (main_arg11 : FVec F S128x128 .f32) (main_arg12 : FVec F S3x128 .f32) : IVec S_ 1 :=
  let main_v0 : FVec F S32x512x3 .f32 := Host.absf main_arg0
  let main_cst : FVec F S_ .f32 := constant S_ .f32 0x7F800000#32
  let main_v1 : FVec F S32x512x3 .f32 := broadcastInDim S32x512x3 ![] bcast_S_S32x512x3 main_cst
  let main_v2 : IVec S32x512x3 1 := cmpf .olt main_v0 main_v1
  let main_c : IVec S_ 1 := constantI S_ 1 1#1
  let main_v3 : IVec S_ 1 := (fun x v => Host.reduce IntOp.andi x v reducesTo_S32x512x3_S_d0_1_2 h_S_) main_v2 main_c
  let main_v4 : FVec F S6x64 .f32 := Host.absf main_arg1
  let main_cst_0 : FVec F S_ .f32 := constant S_ .f32 0x7F800000#32
  let main_v5 : FVec F S6x64 .f32 := broadcastInDim S6x64 ![] bcast_S_S6x64 main_cst_0
  let main_v6 : IVec S6x64 1 := cmpf .olt main_v4 main_v5
  let main_c_1 : IVec S_ 1 := constantI S_ 1 1#1
  let main_v7 : IVec S_ 1 := (fun x v => Host.reduce IntOp.andi x v reducesTo_S6x64_S_d0_1 h_S_) main_v6 main_c_1
  let main_v8 : IVec S_ 1 := andi main_v3 main_v7
  let main_v9 : FVec F S6x64 .f32 := Host.absf main_arg2
  let main_cst_2 : FVec F S_ .f32 := constant S_ .f32 0x7F800000#32
  let main_v10 : FVec F S6x64 .f32 := broadcastInDim S6x64 ![] bcast_S_S6x64 main_cst_2
  let main_v11 : IVec S6x64 1 := cmpf .olt main_v9 main_v10
  let main_c_3 : IVec S_ 1 := constantI S_ 1 1#1
  let main_v12 : IVec S_ 1 := (fun x v => Host.reduce IntOp.andi x v reducesTo_S6x64_S_d0_1 h_S_) main_v11 main_c_3
  let main_v13 : IVec S_ 1 := andi main_v8 main_v12
  let main_v14 : FVec F S6x64 .f32 := Host.absf main_arg3
  let main_cst_4 : FVec F S_ .f32 := constant S_ .f32 0x7F800000#32
  let main_v15 : FVec F S6x64 .f32 := broadcastInDim S6x64 ![] bcast_S_S6x64 main_cst_4
  let main_v16 : IVec S6x64 1 := cmpf .olt main_v14 main_v15
  fn_part1 (F := F) main_arg4 main_arg5 main_arg6 main_arg7 main_arg8 main_arg9 main_arg10 main_arg11 main_arg12 main_v13 main_v16
-- ==== Kernel.lean ====
abbrev S32x512x3 : Shape := ⟨3, ![32, 512, 3]⟩
abbrev S6x64 : Shape := ⟨2, ![6, 64]⟩
abbrev S3x64 : Shape := ⟨2, ![3, 64]⟩
abbrev S128x64 : Shape := ⟨2, ![128, 64]⟩
abbrev S128x128 : Shape := ⟨2, ![128, 128]⟩
abbrev S3x128 : Shape := ⟨2, ![3, 128]⟩
abbrev S_ : Shape := ⟨0, ![]⟩
abbrev S32x512x5 : Shape := ⟨3, ![32, 512, 5]⟩
abbrev S32x512x8 : Shape := ⟨3, ![32, 512, 8]⟩
abbrev S3x192 : Shape := ⟨2, ![3, 192]⟩
abbrev S5x192 : Shape := ⟨2, ![5, 192]⟩
abbrev S8x192 : Shape := ⟨2, ![8, 192]⟩
abbrev S64x64 : Shape := ⟨2, ![64, 64]⟩
abbrev S64x192 : Shape := ⟨2, ![64, 192]⟩
abbrev S64x128 : Shape := ⟨2, ![64, 128]⟩
abbrev S64x384 : Shape := ⟨2, ![64, 384]⟩
abbrev S5x64 : Shape := ⟨2, ![5, 64]⟩
abbrev S8x64 : Shape := ⟨2, ![8, 64]⟩
abbrev S5x128 : Shape := ⟨2, ![5, 128]⟩
abbrev S8x128 : Shape := ⟨2, ![8, 128]⟩
abbrev S32x1x512 : Shape := ⟨3, ![32, 1, 512]⟩
abbrev S1x512x8 : Shape := ⟨3, ![1, 512, 8]⟩
abbrev S1x1x512 : Shape := ⟨3, ![1, 1, 512]⟩
abbrev S512x8 : Shape := ⟨2, ![512, 8]⟩
abbrev S512x512 : Shape := ⟨2, ![512, 512]⟩
abbrev S512x64 : Shape := ⟨2, ![512, 64]⟩
abbrev S512x1 : Shape := ⟨2, ![512, 1]⟩
abbrev S512 : Shape := ⟨1, ![512]⟩
abbrev S512x9 : Shape := ⟨2, ![512, 9]⟩
abbrev S512x192 : Shape := ⟨2, ![512, 192]⟩
abbrev S512x256 : Shape := ⟨2, ![512, 256]⟩
abbrev S512x65 : Shape := ⟨2, ![512, 65]⟩
abbrev S512x128 : Shape := ⟨2, ![512, 128]⟩
abbrev S512x384 : Shape := ⟨2, ![512, 384]⟩
abbrev S256 : Shape := ⟨1, ![256]⟩

abbrev nBuf : Space → Nat
  | .hbm => 72
  | .vmem => 14
  | .smem => 0
  | _ => 0

abbrev bufTy : (tb : Table) → Fin (tcTables nBuf tb) → BufTy
  | .hbm, ⟨0, _⟩ => ⟨S32x512x3, .f32⟩
  | .hbm, ⟨1, _⟩ => ⟨S6x64, .f32⟩
  | .hbm, ⟨2, _⟩ => ⟨S6x64, .f32⟩
  | .hbm, ⟨3, _⟩ => ⟨S6x64, .f32⟩
  | .hbm, ⟨4, _⟩ => ⟨S3x64, .f32⟩
  | .hbm, ⟨5, _⟩ => ⟨S128x64, .f32⟩
  | .hbm, ⟨6, _⟩ => ⟨S128x64, .f32⟩
  | .hbm, ⟨7, _⟩ => ⟨S128x64, .f32⟩
  | .hbm, ⟨8, _⟩ => ⟨S3x64, .f32⟩
  | .hbm, ⟨9, _⟩ => ⟨S128x128, .f32⟩
  | .hbm, ⟨10, _⟩ => ⟨S128x128, .f32⟩
  | .hbm, ⟨11, _⟩ => ⟨S128x128, .f32⟩
  | .hbm, ⟨12, _⟩ => ⟨S3x128, .f32⟩
  | .hbm, ⟨13, _⟩ => ⟨S_, .f32⟩
  | .hbm, ⟨14, _⟩ => ⟨S32x512x5, .f32⟩
  | .hbm, ⟨15, _⟩ => ⟨S32x512x8, .f32⟩
  | .hbm, ⟨16, _⟩ => ⟨S3x64, .f32⟩
  | .hbm, ⟨17, _⟩ => ⟨S3x64, .f32⟩
  | .hbm, ⟨18, _⟩ => ⟨S3x64, .f32⟩
  | .hbm, ⟨19, _⟩ => ⟨S3x192, .f32⟩
  | .hbm, ⟨20, _⟩ => ⟨S3x64, .f32⟩
  | .hbm, ⟨21, _⟩ => ⟨S3x64, .f32⟩
  | .hbm, ⟨22, _⟩ => ⟨S3x64, .f32⟩
  | .hbm, ⟨23, _⟩ => ⟨S3x64, .f32⟩
  | .hbm, ⟨24, _⟩ => ⟨S3x64, .f32⟩
  | .hbm, ⟨25, _⟩ => ⟨S3x64, .f32⟩
  | .hbm, ⟨26, _⟩ => ⟨S3x64, .f32⟩
  | .hbm, ⟨27, _⟩ => ⟨S3x64, .f32⟩
  | .hbm, ⟨28, _⟩ => ⟨S3x64, .f32⟩
  | .hbm, ⟨29, _⟩ => ⟨S3x192, .f32⟩
  | .hbm, ⟨30, _⟩ => ⟨S_, .f32⟩
  | .hbm, ⟨31, _⟩ => ⟨S5x192, .f32⟩
  | .hbm, ⟨32, _⟩ => ⟨S8x192, .f32⟩
  | .hbm, ⟨33, _⟩ => ⟨S8x192, .f32⟩
  | .hbm, ⟨34, _⟩ => ⟨S64x64, .f32⟩
  | .hbm, ⟨35, _⟩ => ⟨S64x64, .f32⟩
  | .hbm, ⟨36, _⟩ => ⟨S64x64, .f32⟩
  | .hbm, ⟨37, _⟩ => ⟨S64x192, .f32⟩
  | .hbm, ⟨38, _⟩ => ⟨S64x64, .f32⟩
  | .hbm, ⟨39, _⟩ => ⟨S64x64, .f32⟩
  | .hbm, ⟨40, _⟩ => ⟨S64x64, .f32⟩
  | .hbm, ⟨41, _⟩ => ⟨S64x64, .f32⟩
  | .hbm, ⟨42, _⟩ => ⟨S64x64, .f32⟩
  | .hbm, ⟨43, _⟩ => ⟨S64x64, .f32⟩
  | .hbm, ⟨44, _⟩ => ⟨S64x64, .f32⟩
  | .hbm, ⟨45, _⟩ => ⟨S64x64, .f32⟩
  | .hbm, ⟨46, _⟩ => ⟨S64x64, .f32⟩
  | .hbm, ⟨47, _⟩ => ⟨S64x192, .f32⟩
  | .hbm, ⟨48, _⟩ => ⟨S64x128, .f32⟩
  | .hbm, ⟨49, _⟩ => ⟨S64x128, .f32⟩
  | .hbm, ⟨50, _⟩ => ⟨S64x128, .f32⟩
  | .hbm, ⟨51, _⟩ => ⟨S64x384, .f32⟩
  | .hbm, ⟨52, _⟩ => ⟨S64x128, .f32⟩
  | .hbm, ⟨53, _⟩ => ⟨S64x128, .f32⟩
  | .hbm, ⟨54, _⟩ => ⟨S64x128, .f32⟩
  | .hbm, ⟨55, _⟩ => ⟨S64x128, .f32⟩
  | .hbm, ⟨56, _⟩ => ⟨S64x128, .f32⟩
  | .hbm, ⟨57, _⟩ => ⟨S64x128, .f32⟩
  | .hbm, ⟨58, _⟩ => ⟨S64x128, .f32⟩
  | .hbm, ⟨59, _⟩ => ⟨S64x128, .f32⟩
  | .hbm, ⟨60, _⟩ => ⟨S64x128, .f32⟩
  | .hbm, ⟨61, _⟩ => ⟨S64x384, .f32⟩
  | .hbm, ⟨62, _⟩ => ⟨S_, .f32⟩
  | .hbm, ⟨63, _⟩ => ⟨S5x64, .f32⟩
  | .hbm, ⟨64, _⟩ => ⟨S8x64, .f32⟩
  | .hbm, ⟨65, _⟩ => ⟨S_, .f32⟩
  | .hbm, ⟨66, _⟩ => ⟨S5x64, .f32⟩
  | .hbm, ⟨67, _⟩ => ⟨S8x64, .f32⟩
  | .hbm, ⟨68, _⟩ => ⟨S_, .f32⟩
  | .hbm, ⟨69, _⟩ => ⟨S5x128, .f32⟩
  | .hbm, ⟨70, _⟩ => ⟨S8x128, .f32⟩
  | .hbm, ⟨71, _⟩ => ⟨S32x1x512, .f32⟩
  | .local _ .vmem, ⟨0, _⟩ => ⟨S1x512x8, .f32⟩
  | .local _ .vmem, ⟨1, _⟩ => ⟨S1x512x8, .f32⟩
  | .local _ .vmem, ⟨2, _⟩ => ⟨S8x192, .f32⟩
  | .local _ .vmem, ⟨3, _⟩ => ⟨S8x192, .f32⟩
  | .local _ .vmem, ⟨4, _⟩ => ⟨S8x64, .f32⟩
  | .local _ .vmem, ⟨5, _⟩ => ⟨S64x192, .f32⟩
  | .local _ .vmem, ⟨6, _⟩ => ⟨S64x192, .f32⟩
  | .local _ .vmem, ⟨7, _⟩ => ⟨S8x64, .f32⟩
  | .local _ .vmem, ⟨8, _⟩ => ⟨S64x384, .f32⟩
  | .local _ .vmem, ⟨9, _⟩ => ⟨S64x384, .f32⟩
  | .local _ .vmem, ⟨10, _⟩ => ⟨S8x128, .f32⟩
  | .local _ .vmem, ⟨11, _⟩ => ⟨S1x1x512, .f32⟩
  | .local _ .vmem, ⟨12, _⟩ => ⟨S1x1x512, .f32⟩
  | .local _ .vmem, ⟨13, _⟩ => ⟨S8x128, .f32⟩
  | _, _ => ⟨S32x512x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_0 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_1 : Ref sig .tc := ⟨.hbm, 62, rfl⟩
abbrev main_v47 : Ref sig .tc := ⟨.hbm, 63, rfl⟩
abbrev main_v48 : Ref sig .tc := ⟨.hbm, 64, rfl⟩
abbrev main_cst_2 : Ref sig .tc := ⟨.hbm, 65, rfl⟩
abbrev main_v49 : Ref sig .tc := ⟨.hbm, 66, rfl⟩
abbrev main_v50 : Ref sig .tc := ⟨.hbm, 67, rfl⟩
abbrev main_cst_3 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== KernelIdeal.lean ====
variable {F : FTy → Type} [FloatOps F] [Named F]
def κ : String → Option EReal := fun
  | "inv_sqrt_128" => some (((Real.sqrt 128)⁻¹ : ℝ) : EReal)
  | "taken" => some ⊥
  | _ => none
-- ==== ReferenceIdeal.lean ====
abbrev S32x512x3 : Shape := ⟨3, ![32, 512, 3]⟩
abbrev S6x64 : Shape := ⟨2, ![6, 64]⟩
abbrev S3x64 : Shape := ⟨2, ![3, 64]⟩
abbrev S128x64 : Shape := ⟨2, ![128, 64]⟩
abbrev S128x128 : Shape := ⟨2, ![128, 128]⟩
abbrev S3x128 : Shape := ⟨2, ![3, 128]⟩
abbrev S32x3x512 : Shape := ⟨3, ![32, 3, 512]⟩
abbrev S32x512x512 : Shape := ⟨3, ![32, 512, 512]⟩
abbrev S_ : Shape := ⟨0, ![]⟩
abbrev S32x512 : Shape := ⟨2, ![32, 512]⟩
abbrev S32x512x1 : Shape := ⟨3, ![32, 512, 1]⟩
abbrev S32x1x512 : Shape := ⟨3, ![32, 1, 512]⟩
abbrev S32x512x16 : Shape := ⟨3, ![32, 512, 16]⟩
abbrev S32x8192 : Shape := ⟨2, ![32, 8192]⟩
abbrev S32x8192x1 : Shape := ⟨3, ![32, 8192, 1]⟩
abbrev S1 : Shape := ⟨1, ![1]⟩
abbrev S1x1x1 : Shape := ⟨3, ![1, 1, 1]⟩
abbrev S32x8192x3 : Shape := ⟨3, ![32, 8192, 3]⟩
abbrev S32x512x16x3 : Shape := ⟨4, ![32, 512, 16, 3]⟩
abbrev S32x512x1x3 : Shape := ⟨4, ![32, 512, 1, 3]⟩
abbrev S32x512x16x6 : Shape := ⟨4, ![32, 512, 16, 6]⟩
abbrev S32x6x512x16 : Shape := ⟨4, ![32, 6, 512, 16]⟩
abbrev S64x32x512x16 : Shape := ⟨4, ![64, 32, 512, 16]⟩
abbrev S32x64x512x16 : Shape := ⟨4, ![32, 64, 512, 16]⟩
abbrev S64x32x512 : Shape := ⟨3, ![64, 32, 512]⟩
abbrev S32x64x512 : Shape := ⟨3, ![32, 64, 512]⟩
abbrev S32x64x512x1 : Shape := ⟨4, ![32, 64, 512, 1]⟩
abbrev S32x512x64 : Shape := ⟨3, ![32, 512, 64]⟩
abbrev S32x8192x64 : Shape := ⟨3, ![32, 8192, 64]⟩
abbrev S32x512x16x64 : Shape := ⟨4, ![32, 512, 16, 64]⟩
abbrev S32x512x1x64 : Shape := ⟨4, ![32, 512, 1, 64]⟩
abbrev S32x512x16x128 : Shape := ⟨4, ![32, 512, 16, 128]⟩
abbrev S32x128x512x16 : Shape := ⟨4, ![32, 128, 512, 16]⟩
abbrev S128x32x512x16 : Shape := ⟨4, ![128, 32, 512, 16]⟩
abbrev S128x32x512 : Shape := ⟨3, ![128, 32, 512]⟩
abbrev S32x128x512 : Shape := ⟨3, ![32, 128, 512]⟩
abbrev S32x128x512x1 : Shape := ⟨4, ![32, 128, 512, 1]⟩
abbrev S32x256x512 : Shape := ⟨3, ![32, 256, 512]⟩
abbrev S32x256 : Shape := ⟨2, ![32, 256]⟩

abbrev nBuf : Space → Nat
  | .hbm => 273
  | .vmem => 0
  | .smem => 0
  | _ => 0

abbrev hbmTy0_0 (i : Nat) : BufTy := match i % 128 with
  | 0 => ⟨S32x512x3, .f32⟩
  | 1 => ⟨S6x64, .f32⟩
  | 2 => ⟨S6x64, .f32⟩
  | 3 => ⟨S6x64, .f32⟩
  | 4 => ⟨S3x64, .f32⟩
  | 5 => ⟨S128x64, .f32⟩
  | 6 => ⟨S128x64, .f32⟩
  | 7 => ⟨S128x64, .f32⟩
  | 8 => ⟨S3x64, .f32⟩
  | 9 => ⟨S128x128, .f32⟩
  | 10 => ⟨S128x128, .f32⟩
  | 11 => ⟨S128x128, .f32⟩
  | 12 => ⟨S3x128, .f32⟩
  | 13 => ⟨S32x3x512, .f32⟩
  | 14 => ⟨S32x512x512, .f32⟩
  | 15 => ⟨S_, .f32⟩
  | 16 => ⟨S32x512x512, .f32⟩
  | 17 => ⟨S32x512x512, .f32⟩
  | 18 => ⟨S32x3x512, .f32⟩
  | 19 => ⟨S_, .f32⟩
  | 20 => ⟨S32x512, .f32⟩
  | 21 => ⟨S32x512x1, .f32⟩
  | 22 => ⟨S32x512x1, .f32⟩
  | 23 => ⟨S32x512x512, .f32⟩
  | 24 => ⟨S32x512x512, .f32⟩
  | 25 => ⟨S32x1x512, .f32⟩
  | 26 => ⟨S32x512x512, .f32⟩
  | 27 => ⟨S32x512x512, .f32⟩
  | 28 => ⟨S32x512x16, .f32⟩
  | 29 => ⟨S32x512x16, .i32⟩
  | 30 => ⟨S32x512x3, .f32⟩
  | 31 => ⟨S32x8192, .i32⟩
  | 32 => ⟨S32x8192x1, .i32⟩
  | 33 => ⟨S_, .i32⟩
  | 34 => ⟨S32x8192x1, .i32⟩
  | 35 => ⟨S32x8192x1, .i1⟩
  | 36 => ⟨S_, .i32⟩
  | 37 => ⟨S32x8192x1, .i32⟩
  | 38 => ⟨S32x8192x1, .i32⟩
  | 39 => ⟨S32x8192x1, .i32⟩
  | 40 => ⟨S1, .i32⟩
  | 41 => ⟨S_, .i32⟩
  | 42 => ⟨S32x8192x1, .i32⟩
  | 43 => ⟨S32x8192x1, .i1⟩
  | 44 => ⟨S1x1x1, .i32⟩
  | 45 => ⟨S32x8192x1, .i32⟩
  | 46 => ⟨S32x8192x1, .i1⟩
  | 47 => ⟨S32x8192x1, .i1⟩
  | 48 => ⟨S_, .i1⟩
  | 49 => ⟨S32x8192, .i1⟩
  | 50 => ⟨S32x8192x3, .f32⟩
  | 51 => ⟨S32x8192x3, .i1⟩
  | 52 => ⟨S_, .f32⟩
  | 53 => ⟨S32x8192x3, .f32⟩
  | 54 => ⟨S32x8192x3, .f32⟩
  | 55 => ⟨S32x512x16x3, .f32⟩
  | 56 => ⟨S32x512x1x3, .f32⟩
  | 57 => ⟨S32x512x16x3, .f32⟩
  | 58 => ⟨S32x512x16x3, .f32⟩
  | 59 => ⟨S32x512x16x6, .f32⟩
  | 60 => ⟨S32x6x512x16, .f32⟩
  | 61 => ⟨S64x32x512x16, .f32⟩
  | 62 => ⟨S32x64x512x16, .f32⟩
  | 63 => ⟨S64x32x512x16, .f32⟩
  | 64 => ⟨S32x64x512x16, .f32⟩
  | 65 => ⟨S64x32x512x16, .f32⟩
  | 66 => ⟨S32x64x512x16, .f32⟩
  | 67 => ⟨S64x32x512, .f32⟩
  | 68 => ⟨S32x64x512, .f32⟩
  | 69 => ⟨S32x64x512x1, .f32⟩
  | 70 => ⟨S32x64x512x16, .f32⟩
  | 71 => ⟨S32x64x512x16, .f32⟩
  | 72 => ⟨S32x64x512x16, .f32⟩
  | 73 => ⟨S_, .f32⟩
  | 74 => ⟨S_, .f32⟩
  | 75 => ⟨S_, .f32⟩
  | 76 => ⟨S32x64x512x16, .f32⟩
  | 77 => ⟨S32x64x512x16, .f32⟩
  | 78 => ⟨S_, .f32⟩
  | 79 => ⟨S32x64x512, .f32⟩
  | 80 => ⟨S_, .f32⟩
  | 81 => ⟨S32x64x512, .f32⟩
  | 82 => ⟨S32x64x512, .f32⟩
  | 83 => ⟨S32x64x512x1, .f32⟩
  | 84 => ⟨S32x64x512x16, .f32⟩
  | 85 => ⟨S32x64x512x16, .f32⟩
  | 86 => ⟨S32x64x512x16, .f32⟩
  | 87 => ⟨S_, .f32⟩
  | 88 => ⟨S32x64x512, .f32⟩
  | 89 => ⟨S32x64x512x1, .f32⟩
  | 90 => ⟨S32x64x512x16, .f32⟩
  | 91 => ⟨S32x64x512x16, .f32⟩
  | 92 => ⟨S32x64x512x16, .f32⟩
  | 93 => ⟨S32x64x512x16, .f32⟩
  | 94 => ⟨S32x64x512x16, .f32⟩
  | 95 => ⟨S_, .f32⟩
  | 96 => ⟨S32x64x512, .f32⟩
  | 97 => ⟨S32x512x512, .f32⟩
  | 98 => ⟨S_, .f32⟩
  | 99 => ⟨S32x512x512, .f32⟩
  | 100 => ⟨S32x512x512, .f32⟩
  | 101 => ⟨S32x64x512, .f32⟩
  | 102 => ⟨S_, .f32⟩
  | 103 => ⟨S32x512, .f32⟩
  | 104 => ⟨S32x512x1, .f32⟩
  | 105 => ⟨S32x512x1, .f32⟩
  | 106 => ⟨S32x512x512, .f32⟩
  | 107 => ⟨S32x512x512, .f32⟩
  | 108 => ⟨S32x1x512, .f32⟩
  | 109 => ⟨S32x512x512, .f32⟩
  | 110 => ⟨S32x512x512, .f32⟩
  | 111 => ⟨S32x512x16, .f32⟩
  | 112 => ⟨S32x512x16, .i32⟩
  | 113 => ⟨S32x512x64, .f32⟩
  | 114 => ⟨S32x8192, .i32⟩
  | 115 => ⟨S32x8192x1, .i32⟩
  | 116 => ⟨S_, .i32⟩
  | 117 => ⟨S32x8192x1, .i32⟩
  | 118 => ⟨S32x8192x1, .i1⟩
  | 119 => ⟨S_, .i32⟩
  | 120 => ⟨S32x8192x1, .i32⟩
  | 121 => ⟨S32x8192x1, .i32⟩
  | 122 => ⟨S32x8192x1, .i32⟩
  | 123 => ⟨S1, .i32⟩
  | 124 => ⟨S_, .i32⟩
  | 125 => ⟨S32x8192x1, .i32⟩
  | 126 => ⟨S32x8192x1, .i1⟩
  | 127 => ⟨S1x1x1, .i32⟩
  | _ => ⟨S32x512x3, .f32⟩

abbrev hbmTy0_1 (i : Nat) : BufTy := match i % 128 with
  | 0 => ⟨S32x8192x1, .i32⟩
  | 1 => ⟨S32x8192x1, .i1⟩
  | 2 => ⟨S32x8192x1, .i1⟩
  | 3 => ⟨S_, .i1⟩
  | 4 => ⟨S32x8192, .i1⟩
  | 5 => ⟨S32x8192x64, .f32⟩
  | 6 => ⟨S32x8192x64, .i1⟩
  | 7 => ⟨S_, .f32⟩
  | 8 => ⟨S32x8192x64, .f32⟩
  | 9 => ⟨S32x8192x64, .f32⟩
  | 10 => ⟨S32x512x16x64, .f32⟩
  | 11 => ⟨S32x512x1x64, .f32⟩
  | 12 => ⟨S32x512x16x64, .f32⟩
  | 13 => ⟨S32x512x16x64, .f32⟩
  | 14 => ⟨S32x512x16x128, .f32⟩
  | 15 => ⟨S32x128x512x16, .f32⟩
  | 16 => ⟨S64x32x512x16, .f32⟩
  | 17 => ⟨S32x64x512x16, .f32⟩
  | 18 => ⟨S64x32x512x16, .f32⟩
  | 19 => ⟨S32x64x512x16, .f32⟩
  | 20 => ⟨S64x32x512x16, .f32⟩
  | 21 => ⟨S32x64x512x16, .f32⟩
  | 22 => ⟨S64x32x512, .f32⟩
  | 23 => ⟨S32x64x512, .f32⟩
  | 24 => ⟨S32x64x512x1, .f32⟩
  | 25 => ⟨S32x64x512x16, .f32⟩
  | 26 => ⟨S32x64x512x16, .f32⟩
  | 27 => ⟨S32x64x512x16, .f32⟩
  | 28 => ⟨S_, .f32⟩
  | 29 => ⟨S_, .f32⟩
  | 30 => ⟨S_, .f32⟩
  | 31 => ⟨S32x64x512x16, .f32⟩
  | 32 => ⟨S32x64x512x16, .f32⟩
  | 33 => ⟨S_, .f32⟩
  | 34 => ⟨S32x64x512, .f32⟩
  | 35 => ⟨S_, .f32⟩
  | 36 => ⟨S32x64x512, .f32⟩
  | 37 => ⟨S32x64x512, .f32⟩
  | 38 => ⟨S32x64x512x1, .f32⟩
  | 39 => ⟨S32x64x512x16, .f32⟩
  | 40 => ⟨S32x64x512x16, .f32⟩
  | 41 => ⟨S32x64x512x16, .f32⟩
  | 42 => ⟨S_, .f32⟩
  | 43 => ⟨S32x64x512, .f32⟩
  | 44 => ⟨S32x64x512x1, .f32⟩
  | 45 => ⟨S32x64x512x16, .f32⟩
  | 46 => ⟨S32x64x512x16, .f32⟩
  | 47 => ⟨S32x64x512x16, .f32⟩
  | 48 => ⟨S32x64x512x16, .f32⟩
  | 49 => ⟨S32x64x512x16, .f32⟩
  | 50 => ⟨S_, .f32⟩
  | 51 => ⟨S32x64x512, .f32⟩
  | 52 => ⟨S32x512x512, .f32⟩
  | 53 => ⟨S_, .f32⟩
  | 54 => ⟨S32x512x512, .f32⟩
  | 55 => ⟨S32x512x512, .f32⟩
  | 56 => ⟨S32x64x512, .f32⟩
  | 57 => ⟨S_, .f32⟩
  | 58 => ⟨S32x512, .f32⟩
  | 59 => ⟨S32x512x1, .f32⟩
  | 60 => ⟨S32x512x1, .f32⟩
  | 61 => ⟨S32x512x512, .f32⟩
  | 62 => ⟨S32x512x512, .f32⟩
  | 63 => ⟨S32x1x512, .f32⟩
  | 64 => ⟨S32x512x512, .f32⟩
  | 65 => ⟨S32x512x512, .f32⟩
  | 66 => ⟨S32x512x16, .f32⟩
  | 67 => ⟨S32x512x16, .i32⟩
  | 68 => ⟨S32x512x64, .f32⟩
  | 69 => ⟨S32x8192, .i32⟩
  | 70 => ⟨S32x8192x1, .i32⟩
  | 71 => ⟨S_, .i32⟩
  | 72 => ⟨S32x8192x1, .i32⟩
  | 73 => ⟨S32x8192x1, .i1⟩
  | 74 => ⟨S_, .i32⟩
  | 75 => ⟨S32x8192x1, .i32⟩
  | 76 => ⟨S32x8192x1, .i32⟩
  | 77 => ⟨S32x8192x1, .i32⟩
  | 78 => ⟨S1, .i32⟩
  | 79 => ⟨S_, .i32⟩
  | 80 => ⟨S32x8192x1, .i32⟩
  | 81 => ⟨S32x8192x1, .i1⟩
  | 82 => ⟨S1x1x1, .i32⟩
  | 83 => ⟨S32x8192x1, .i32⟩
  | 84 => ⟨S32x8192x1, .i1⟩
  | 85 => ⟨S32x8192x1, .i1⟩
  | 86 => ⟨S_, .i1⟩
  | 87 => ⟨S32x8192, .i1⟩
  | 88 => ⟨S32x8192x64, .f32⟩
  | 89 => ⟨S32x8192x64, .i1⟩
  | 90 => ⟨S_, .f32⟩
  | 91 => ⟨S32x8192x64, .f32⟩
  | 92 => ⟨S32x8192x64, .f32⟩
  | 93 => ⟨S32x512x16x64, .f32⟩
  | 94 => ⟨S32x512x1x64, .f32⟩
  | 95 => ⟨S32x512x16x64, .f32⟩
  | 96 => ⟨S32x512x16x64, .f32⟩
  | 97 => ⟨S32x512x16x128, .f32⟩
  | 98 => ⟨S32x128x512x16, .f32⟩
  | 99 => ⟨S128x32x512x16, .f32⟩
  | 100 => ⟨S32x128x512x16, .f32⟩
  | 101 => ⟨S128x32x512x16, .f32⟩
  | 102 => ⟨S32x128x512x16, .f32⟩
  | 103 => ⟨S128x32x512x16, .f32⟩
  | 104 => ⟨S32x128x512x16, .f32⟩
  | 105 => ⟨S128x32x512, .f32⟩
  | 106 => ⟨S32x128x512, .f32⟩
  | 107 => ⟨S32x128x512x1, .f32⟩
  | 108 => ⟨S32x128x512x16, .f32⟩
  | 109 => ⟨S32x128x512x16, .f32⟩
  | 110 => ⟨S32x128x512x16, .f32⟩
  | 111 => ⟨S_, .f32⟩
  | 112 => ⟨S_, .f32⟩
  | 113 => ⟨S_, .f32⟩
  | 114 => ⟨S32x128x512x16, .f32⟩
  | 115 => ⟨S32x128x512x16, .f32⟩
  | 116 => ⟨S_, .f32⟩
  | 117 => ⟨S32x128x512, .f32⟩
  | 118 => ⟨S_, .f32⟩
  | 119 => ⟨S32x128x512, .f32⟩
  | 120 => ⟨S32x128x512, .f32⟩
  | 121 => ⟨S32x128x512x1, .f32⟩
  | 122 => ⟨S32x128x512x16, .f32⟩
  | 123 => ⟨S32x128x512x16, .f32⟩
  | 124 => ⟨S32x128x512x16, .f32⟩
  | 125 => ⟨S_, .f32⟩
  | 126 => ⟨S32x128x512, .f32⟩
  | 127 => ⟨S32x128x512x1, .f32⟩
  | _ => ⟨S32x512x3, .f32⟩

abbrev hbmTy0_2 (i : Nat) : BufTy := match i % 128 with
  | 0 => ⟨S32x128x512x16, .f32⟩
  | 1 => ⟨S32x128x512x16, .f32⟩
  | 2 => ⟨S32x128x512x16, .f32⟩
  | 3 => ⟨S32x128x512x16, .f32⟩
  | 4 => ⟨S32x128x512x16, .f32⟩
  | 5 => ⟨S_, .f32⟩
  | 6 => ⟨S32x128x512, .f32⟩
  | 7 => ⟨S32x256x512, .f32⟩
  | 8 => ⟨S_, .f32⟩
  | 9 => ⟨S32x256, .f32⟩
  | 10 => ⟨S_, .f32⟩
  | 11 => ⟨S32x256, .f32⟩
  | 12 => ⟨S_, .f32⟩
  | 13 => ⟨S32x256, .f32⟩
  | 14 => ⟨S32x256, .f32⟩
  | 15 => ⟨S32x512, .f32⟩
  | 16 => ⟨S32x1x512, .f32⟩
  | _ => ⟨S32x512x3, .f32⟩

abbrev hbmTy (i : Nat) : BufTy := match i / 128 with
  | 0 => hbmTy0_0 i
  | 1 => hbmTy0_1 i
  | 2 => hbmTy0_2 i
  | _ => ⟨S32x512x3, .f32⟩

abbrev bufTy : (tb : Table) → Fin (tcTables nBuf tb) → BufTy
  | .hbm, ⟨i, _⟩ => hbmTy i
  | _, _ => ⟨S32x512x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_values : Ref sig .tc := ⟨.hbm, 28, rfl⟩
abbrev main_indices : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_call0_c : Ref sig .tc := ⟨.hbm, 33, rfl⟩
abbrev main_call0_v0 : Ref sig .tc := ⟨.hbm, 34, rfl⟩
abbrev main_call0_v1 : Ref sig .tc := ⟨.hbm, 35, rfl⟩
abbrev main_call0_c_0 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_c_1 : Ref sig .tc := ⟨.hbm, 40, rfl⟩
abbrev main_call0_c_2 : Ref sig .tc := ⟨.hbm, 41, rfl⟩
abbrev main_call0_v5 : Ref sig .tc := ⟨.hbm, 42, rfl⟩
abbrev main_call0_v6 : Ref sig .tc := ⟨.hbm, 43, rfl⟩
abbrev main_call0_v7 : Ref sig .tc := ⟨.hbm, 44, rfl⟩
abbrev main_call0_v8 : Ref sig .tc := ⟨.hbm, 45, rfl⟩
abbrev main_call0_v9 : Ref sig .tc := ⟨.hbm, 46, rfl⟩
abbrev main_call0_v10 : Ref sig .tc := ⟨.hbm, 47, rfl⟩
abbrev main_call0_c_3 : Ref sig .tc := ⟨.hbm, 48, rfl⟩
abbrev main_call0_v11 : Ref sig .tc := ⟨.hbm, 49, rfl⟩
abbrev main_call0_v12 : Ref sig .tc := ⟨.hbm, 50, rfl⟩
abbrev main_call0_v13 : Ref sig .tc := ⟨.hbm, 51, rfl⟩
abbrev main_call0_cst : Ref sig .tc := ⟨.hbm, 52, rfl⟩
abbrev main_call0_v14 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_cst_1 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_cst_2 : Ref sig .tc := ⟨.hbm, 78, rfl⟩
abbrev main_v39 : Ref sig .tc := ⟨.hbm, 79, rfl⟩
abbrev main_cst_3 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_cst_4 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_cst_5 : Ref sig .tc := ⟨.hbm, 95, rfl⟩
abbrev main_v53 : Ref sig .tc := ⟨.hbm, 96, rfl⟩
abbrev main_v54 : Ref sig .tc := ⟨.hbm, 97, rfl⟩
abbrev main_cst_6 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_cst_7 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_values_8 : Ref sig .tc := ⟨.hbm, 111, rfl⟩
abbrev main_indices_9 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_call1_c : Ref sig .tc := ⟨.hbm, 116, rfl⟩
abbrev main_call1_v0 : Ref sig .tc := ⟨.hbm, 117, rfl⟩
abbrev main_call1_v1 : Ref sig .tc := ⟨.hbm, 118, rfl⟩
abbrev main_call1_c_0 : Ref sig .tc := ⟨.hbm, 119, rfl⟩
abbrev main_call1_v2 : Ref sig .tc := ⟨.hbm, 120, rfl⟩
abbrev main_call1_v3 : Ref sig .tc := ⟨.hbm, 121, rfl⟩
abbrev main_call1_v4 : Ref sig .tc := ⟨.hbm, 122, rfl⟩
abbrev main_call1_c_1 : Ref sig .tc := ⟨.hbm, 123, rfl⟩
abbrev main_call1_c_2 : Ref sig .tc := ⟨.hbm, 124, rfl⟩
abbrev main_call1_v5 : Ref sig .tc := ⟨.hbm, 125, rfl⟩
abbrev main_call1_v6 : Ref sig .tc := ⟨.hbm, 126, rfl⟩
abbrev main_call1_v7 : Ref sig .tc := ⟨.hbm, 127, rfl⟩
abbrev main_call1_v8 : Ref sig .tc := ⟨.hbm, 128, rfl⟩
abbrev main_call1_v9 : Ref sig .tc := ⟨.hbm, 129, rfl⟩
abbrev main_call1_v10 : Ref sig .tc := ⟨.hbm, 130, rfl⟩
abbrev main_call1_c_3 : Ref sig .tc := ⟨.hbm, 131, rfl⟩
abbrev main_call1_v11 : Ref sig .tc := ⟨.hbm, 132, rfl⟩
abbrev main_call1_v12 : Ref sig .tc := ⟨.hbm, 133, rfl⟩
abbrev main_call1_v13 : Ref sig .tc := ⟨.hbm, 134, rfl⟩
abbrev main_call1_cst : Ref sig .tc := ⟨.hbm, 135, rfl⟩
abbrev main_call1_v14 : Ref sig .tc := ⟨.hbm, 136, rfl⟩
abbrev main_v69 : Ref sig .tc := ⟨.hbm, 137, rfl⟩
abbrev main_v70 : Ref sig .tc := ⟨.hbm, 138, rfl⟩
abbrev main_v71 : Ref sig .tc := ⟨.hbm, 139, rfl⟩
abbrev main_v72 : Ref sig .tc := ⟨.hbm, 140, rfl⟩
abbrev main_v73 : Ref sig .tc := ⟨.hbm, 141, rfl⟩
abbrev main_v74 : Ref sig .tc := ⟨.hbm, 142, rfl⟩
abbrev main_v75 : Ref sig .tc := ⟨.hbm, 143, rfl⟩
abbrev main_v76 : Ref sig .tc := ⟨.hbm, 144, rfl⟩
abbrev main_v77 : Ref sig .tc := ⟨.hbm, 145, rfl⟩
abbrev main_v78 : Ref sig .tc := ⟨.hbm, 146, rfl⟩
abbrev main_v79 : Ref sig .tc := ⟨.hbm, 147, rfl⟩
abbrev main_v80 : Ref sig .tc := ⟨.hbm, 148, rfl⟩
abbrev main_v81 : Ref sig .tc := ⟨.hbm, 149, rfl⟩
abbrev main_v82 : Ref sig .tc := ⟨.hbm, 150, rfl⟩
abbrev main_v83 : Ref sig .tc := ⟨.hbm, 151, rfl⟩
abbrev main_v84 : Ref sig .tc := ⟨.hbm, 152, rfl⟩
abbrev main_v85 : Ref sig .tc := ⟨.hbm, 153, rfl⟩
abbrev main_v86 : Ref sig .tc := ⟨.hbm, 154, rfl⟩
abbrev main_v87 : Ref sig .tc := ⟨.hbm, 155, rfl⟩
abbrev main_cst_10 : Ref sig .tc := ⟨.hbm, 156, rfl⟩
abbrev main_v88 : Ref sig .tc := ⟨.hbm, 157, rfl⟩
abbrev main_v89 : Ref sig .tc := ⟨.hbm, 158, rfl⟩
abbrev main_v90 : Ref sig .tc := ⟨.hbm, 159, rfl⟩
abbrev main_v91 : Ref sig .tc := ⟨.hbm, 160, rfl⟩
abbrev main_cst_11 : Ref sig .tc := ⟨.hbm, 161, rfl⟩
abbrev main_v92 : Ref sig .tc := ⟨.hbm, 162, rfl⟩
abbrev main_cst_12 : Ref sig .tc := ⟨.hbm, 163, rfl⟩
abbrev main_v93 : Ref sig .tc := ⟨.hbm, 164, rfl⟩
abbrev main_v94 : Ref sig .tc := ⟨.hbm, 165, rfl⟩
abbrev main_v95 : Ref sig .tc := ⟨.hbm, 166, rfl⟩
abbrev main_v96 : Ref sig .tc := ⟨.hbm, 167, rfl⟩
abbrev main_v97 : Ref sig .tc := ⟨.hbm, 168, rfl⟩
abbrev main_v98 : Ref sig .tc := ⟨.hbm, 169, rfl⟩
abbrev main_cst_13 : Ref sig .tc := ⟨.hbm, 170, rfl⟩
abbrev main_v99 : Ref sig .tc := ⟨.hbm, 171, rfl⟩
abbrev main_v100 : Ref sig .tc := ⟨.hbm, 172, rfl⟩
abbrev main_v101 : Ref sig .tc := ⟨.hbm, 173, rfl⟩
abbrev main_v102 : Ref sig .tc := ⟨.hbm, 174, rfl⟩
abbrev main_v103 : Ref sig .tc := ⟨.hbm, 175, rfl⟩
abbrev main_v104 : Ref sig .tc := ⟨.hbm, 176, rfl⟩
abbrev main_v105 : Ref sig .tc := ⟨.hbm, 177, rfl⟩
abbrev main_cst_14 : Ref sig .tc := ⟨.hbm, 178, rfl⟩
abbrev main_v106 : Ref sig .tc := ⟨.hbm, 179, rfl⟩
abbrev main_v107 : Ref sig .tc := ⟨.hbm, 180, rfl⟩
abbrev main_cst_15 : Ref sig .tc := ⟨.hbm, 181, rfl⟩
abbrev main_v108 : Ref sig .tc := ⟨.hbm, 182, rfl⟩
abbrev main_v109 : Ref sig .tc := ⟨.hbm, 183, rfl⟩
abbrev main_v110 : Ref sig .tc := ⟨.hbm, 184, rfl⟩
abbrev main_cst_16 : Ref sig .tc := ⟨.hbm, 185, rfl⟩
abbrev main_v111 : Ref sig .tc := ⟨.hbm, 186, rfl⟩
abbrev main_v112 : Ref sig .tc := ⟨.hbm, 187, rfl⟩
abbrev main_v113 : Ref sig .tc := ⟨.hbm, 188, rfl⟩
abbrev main_v114 : Ref sig .tc := ⟨.hbm, 189, rfl⟩
abbrev main_v115 : Ref sig .tc := ⟨.hbm, 190, rfl⟩
abbrev main_v116 : Ref sig .tc := ⟨.hbm, 191, rfl⟩
abbrev main_v117 : Ref sig .tc := ⟨.hbm, 192, rfl⟩
abbrev main_v118 : Ref sig .tc := ⟨.hbm, 193, rfl⟩
abbrev main_values_17 : Ref sig .tc := ⟨.hbm, 194, rfl⟩
abbrev main_indices_18 : Ref sig .tc := ⟨.hbm, 195, rfl⟩
abbrev main_v119 : Ref sig .tc := ⟨.hbm, 196, rfl⟩
abbrev main_v120 : Ref sig .tc := ⟨.hbm, 197, rfl⟩
abbrev main_v121 : Ref sig .tc := ⟨.hbm, 198, rfl⟩
abbrev main_call2_c : Ref sig .tc := ⟨.hbm, 199, rfl⟩
abbrev main_call2_v0 : Ref sig .tc := ⟨.hbm, 200, rfl⟩
abbrev main_call2_v1 : Ref sig .tc := ⟨.hbm, 201, rfl⟩
abbrev main_call2_c_0 : Ref sig .tc := ⟨.hbm, 202, rfl⟩
abbrev main_call2_v2 : Ref sig .tc := ⟨.hbm, 203, rfl⟩
abbrev main_call2_v3 : Ref sig .tc := ⟨.hbm, 204, rfl⟩
abbrev main_call2_v4 : Ref sig .tc := ⟨.hbm, 205, rfl⟩
abbrev main_call2_c_1 : Ref sig .tc := ⟨.hbm, 206, rfl⟩
abbrev main_call2_c_2 : Ref sig .tc := ⟨.hbm, 207, rfl⟩
abbrev main_call2_v5 : Ref sig .tc := ⟨.hbm, 208, rfl⟩
abbrev main_call2_v6 : Ref sig .tc := ⟨.hbm, 209, rfl⟩
abbrev main_call2_v7 : Ref sig .tc := ⟨.hbm, 210, rfl⟩
abbrev main_call2_v8 : Ref sig .tc := ⟨.hbm, 211, rfl⟩
abbrev main_call2_v9 : Ref sig .tc := ⟨.hbm, 212, rfl⟩
abbrev main_call2_v10 : Ref sig .tc := ⟨.hbm, 213, rfl⟩
abbrev main_call2_c_3 : Ref sig .tc := ⟨.hbm, 214, rfl⟩
abbrev main_call2_v11 : Ref sig .tc := ⟨.hbm, 215, rfl⟩
abbrev main_call2_v12 : Ref sig .tc := ⟨.hbm, 216, rfl⟩
abbrev main_call2_v13 : Ref sig .tc := ⟨.hbm, 217, rfl⟩
abbrev main_call2_cst : Ref sig .tc := ⟨.hbm, 218, rfl⟩
abbrev main_call2_v14 : Ref sig .tc := ⟨.hbm, 219, rfl⟩
abbrev main_v122 : Ref sig .tc := ⟨.hbm, 220, rfl⟩
abbrev main_v123 : Ref sig .tc := ⟨.hbm, 221, rfl⟩
abbrev main_v124 : Ref sig .tc := ⟨.hbm, 222, rfl⟩
abbrev main_v125 : Ref sig .tc := ⟨.hbm, 223, rfl⟩
abbrev main_v126 : Ref sig .tc := ⟨.hbm, 224, rfl⟩
abbrev main_v127 : Ref sig .tc := ⟨.hbm, 225, rfl⟩
abbrev main_v128 : Ref sig .tc := ⟨.hbm, 226, rfl⟩
abbrev main_v129 : Ref sig .tc := ⟨.hbm, 227, rfl⟩
abbrev main_v130 : Ref sig .tc := ⟨.hbm, 228, rfl⟩
abbrev main_v131 : Ref sig .tc := ⟨.hbm, 229, rfl⟩
abbrev main_v132 : Ref sig .tc := ⟨.hbm, 230, rfl⟩
abbrev main_v133 : Ref sig .tc := ⟨.hbm, 231, rfl⟩
abbrev main_v134 : Ref sig .tc := ⟨.hbm, 232, rfl⟩
abbrev main_v135 : Ref sig .tc := ⟨.hbm, 233, rfl⟩
abbrev main_v136 : Ref sig .tc := ⟨.hbm, 234, rfl⟩
abbrev main_v137 : Ref sig .tc := ⟨.hbm, 235, rfl⟩
abbrev main_v138 : Ref sig .tc := ⟨.hbm, 236, rfl⟩
abbrev main_v139 : Ref sig .tc := ⟨.hbm, 237, rfl⟩
abbrev main_v140 : Ref sig .tc := ⟨.hbm, 238, rfl⟩
abbrev main_cst_19 : Ref sig .tc := ⟨.hbm, 239, rfl⟩
abbrev main_v141 : Ref sig .tc := ⟨.hbm, 240, rfl⟩
abbrev main_v142 : Ref sig .tc := ⟨.hbm, 241, rfl⟩
abbrev main_v143 : Ref sig .tc := ⟨.hbm, 242, rfl⟩
abbrev main_v144 : Ref sig .tc := ⟨.hbm, 243, rfl⟩
abbrev main_cst_20 : Ref sig .tc := ⟨.hbm, 244, rfl⟩
abbrev main_v145 : Ref sig .tc := ⟨.hbm, 245, rfl⟩
abbrev main_cst_21 : Ref sig .tc := ⟨.hbm, 246, rfl⟩
abbrev main_v146 : Ref sig .tc := ⟨.hbm, 247, rfl⟩
abbrev main_v147 : Ref sig .tc := ⟨.hbm, 248, rfl⟩
abbrev main_v148 : Ref sig .tc := ⟨.hbm, 249, rfl⟩
abbrev main_v149 : Ref sig .tc := ⟨.hbm, 250, rfl⟩
abbrev main_v150 : Ref sig .tc := ⟨.hbm, 251, rfl⟩
abbrev main_v151 : Ref sig .tc := ⟨.hbm, 252, rfl⟩
abbrev main_cst_22 : Ref sig .tc := ⟨.hbm, 253, rfl⟩
abbrev main_v152 : Ref sig .tc := ⟨.hbm, 254, rfl⟩
abbrev main_v153 : Ref sig .tc := ⟨.hbm, 255, rfl⟩
abbrev main_v154 : Ref sig .tc := ⟨.hbm, 256, rfl⟩
abbrev main_v155 : Ref sig .tc := ⟨.hbm, 257, rfl⟩
abbrev main_v156 : Ref sig .tc := ⟨.hbm, 258, rfl⟩
abbrev main_v157 : Ref sig .tc := ⟨.hbm, 259, rfl⟩
abbrev main_v158 : Ref sig .tc := ⟨.hbm, 260, rfl⟩
abbrev main_cst_23 : Ref sig .tc := ⟨.hbm, 261, rfl⟩
abbrev main_v159 : Ref sig .tc := ⟨.hbm, 262, rfl⟩
abbrev main_v160 : Ref sig .tc := ⟨.hbm, 263, rfl⟩
abbrev main_cst_24 : Ref sig .tc := ⟨.hbm, 264, rfl⟩
abbrev main_v161 : Ref sig .tc := ⟨.hbm, 265, rfl⟩
abbrev main_cst_25 : Ref sig .tc := ⟨.hbm, 266, rfl⟩
abbrev main_v162 : Ref sig .tc := ⟨.hbm, 267, rfl⟩
abbrev main_cst_26 : Ref sig .tc := ⟨.hbm, 268, rfl⟩
abbrev main_v163 : Ref sig .tc := ⟨.hbm, 269, rfl⟩
abbrev main_v164 : Ref sig .tc := ⟨.hbm, 270, rfl⟩
abbrev main_v165 : Ref sig .tc := ⟨.hbm, 271, rfl⟩
abbrev main_v166 : Ref sig .tc := ⟨.hbm, 272, rfl⟩

abbrev nD : Nat := 1
abbrev τ : Topo := Topo.v7x

variable {F : FTy → Type} [FloatOps F]
-- ==== Proof.KernelTerm.lean ====
/- One graph attention layer of the kernel as one function of arrays, and the kernel's block as three of them followed
   by the pooling. The printed body is this function, written out statement by statement. -/
module

public import proofs.«01_k».proof.Proof.Gen.KernelIdeal.Value

@[expose] public section

noncomputable section

namespace Cloud

open Idealize.ShloMosaic Cert.KernelIdeal Cert.KernelIdeal.Gen

/-- The shape facts of the scores: `C` channels, one more in the joined arrays. -/
structure FitsC (C C1 : ℕ) : Prop where
  rows : (⟨2, ![512, C]⟩ : Shape).Reduces [1] S512
  join : Shape.Concatenates [⟨2, ![512, C]⟩, S512x1] ⟨2, ![512, C1]⟩ 1

/-- The shape facts of the attention: `d` channels out, and `d2`, `d3`, `d4` that twice, three and four times. -/
structure FitsD (d d2 d3 d4 : ℕ) : Prop where
  s3q : (⟨2, ![512, d3]⟩ : Shape).Slices ![0, 0] ⟨2, ![512, d]⟩
  s3k : (⟨2, ![512, d3]⟩ : Shape).Slices ![0, d] ⟨2, ![512, d]⟩
  s3v : (⟨2, ![512, d3]⟩ : Shape).Slices ![0, d2] ⟨2, ![512, d]⟩
  join : Shape.Concatenates [⟨2, ![512, d]⟩, ⟨2, ![512, d]⟩, ⟨2, ![512, d]⟩, ⟨2, ![512, d]⟩] ⟨2, ![512, d4]⟩ 1
  s4a : (⟨2, ![512, d4]⟩ : Shape).Slices ![0, 0] ⟨2, ![512, d]⟩
  s4b : (⟨2, ![512, d4]⟩ : Shape).Slices ![0, d] ⟨2, ![512, d]⟩
  s4c : (⟨2, ![512, d4]⟩ : Shape).Slices ![0, d2] ⟨2, ![512, d]⟩
  s4d : (⟨2, ![512, d4]⟩ : Shape).Slices ![0, d3] ⟨2, ![512, d]⟩

variable {F : FTy → Type} [FloatOps F] [Named F]

/-- The number of each column, as a float. -/
def lane : FVec F S512x512 .f32 := sitofp .f32 (iota .tc S512x512 32 [1] iota_S512x512_d1_w32)

section
variable {C C1 d d2 d3 d4 : ℕ}

/-- The scores `2 x_n · x_m - |x_m|²`. -/
def scoresV (h : FitsC C C1) (x : FVec F ⟨2, ![512, C]⟩ .f32) : FVec F S512x512 .f32 :=
  matmul (DotDims.transposedRhs 512 C1 512) none
    (concatenate ⟨2, ![512, C1]⟩ 1 [⟨⟨2, ![512, C]⟩, mulf (broadcast ⟨2, ![512, C]⟩ (Scalar.ofBits .f32 0x40000000#32)) x⟩,
      ⟨S512x1, broadcast S512x1 (Scalar.ofBits .f32 0x3F800000#32)⟩] h.join)
    (concatenate ⟨2, ![512, C1]⟩ 1 [⟨⟨2, ![512, C]⟩, x⟩,
      ⟨S512x1, subf (broadcast S512x1 (Scalar.ofBits .f32 0x00000000#32))
        (shapeCast S512x1 (multiReduction .add [1] S512 (mulf x x) 0x00000000#32 h.rows (.inl rfl) rfl) shapeCasts_S512_S512x1)⟩] h.join)
    (constant S512x512 .f32 0x00000000#32)

/-- Where a row's score is its largest: the column's number; elsewhere something large. -/
def candV (w : FVec F S512x512 .f32) : FVec F S512x512 .f32 :=
  select (cmpf .oeq w (broadcastTo S512x512 (shapeCast S512x1
    (multiReduction .maximumf [1] S512 w 0xFF800000#32 reduces_S512x512_S512 (.inl rfl) rfl) shapeCasts_S512_S512x1) broadcasts_S512x1_S512x512)) lane
    (broadcast S512x512 (Scalar.ofBits .f32 0x7F61B1E6#32))

/-- Each row's first column with the largest score. -/
def pickV (w : FVec F S512x512 .f32) : FVec F S512x1 .f32 :=
  shapeCast S512x1 (multiReduction .minimumf [1] S512 (candV w) 0x7F800000#32 reduces_S512x512_S512 (.inl rfl) rfl) shapeCasts_S512_S512x1

/-- The scores with each row's picked one taken out. -/
def restV (w : FVec F S512x512 .f32) : FVec F S512x512 .f32 :=
  select (cmpf .oeq (candV w) (broadcastTo S512x512 (pickV w) broadcasts_S512x1_S512x512))
    (broadcast S512x512 (Named.named κ "taken" 0xFF61B1E6#32)) w

/-- The scores after `r` rounds. -/
def roundV (w : FVec F S512x512 .f32) : ℕ → FVec F S512x512 .f32
  | 0 => w
  | r + 1 => restV (roundV w r)

/-- The rows of a table at each row's picked column. -/
def gatherV (tab : FVec F ⟨2, ![512, d4]⟩ .f32) (j : FVec F S512x1 .f32) : FVec F ⟨2, ![512, d4]⟩ .f32 :=
  matmul (DotDims.plain 512 512 d4) none
    (select (cmpf .oeq lane (broadcastTo S512x512 j broadcasts_S512x1_S512x512)) (broadcast S512x512 (Scalar.ofBits .f32 0x3F800000#32))
      (broadcast S512x512 (Scalar.ofBits .f32 0x00000000#32))) tab (constant ⟨2, ![512, d4]⟩ .f32 0x00000000#32)

/-- The logits of one neighbour, from its gathered table row `g`. -/
def logitV (h : FitsD d d2 d3 d4) (inv : F .f32) (kp zq : FVec F ⟨2, ![512, d]⟩ .f32) (g : FVec F ⟨2, ![512, d4]⟩ .f32) :
    FVec F ⟨2, ![512, d]⟩ .f32 :=
  mulf (addf (addf (extractStridedSlice ⟨2, ![512, d]⟩ ![0, 0] g h.s4a)
    (mulf (extractStridedSlice ⟨2, ![512, d]⟩ ![0, d] g h.s4b) kp))
    (mulf (extractStridedSlice ⟨2, ![512, d]⟩ ![0, d2] g h.s4c) zq)) (broadcast ⟨2, ![512, d]⟩ inv)

/-- The table: `y_q y_k`, `y_q`, `y_k`, `y_v` side by side. -/
def tableV (h : FitsD d d2 d3 d4) (y : FVec F ⟨2, ![512, d3]⟩ .f32) : FVec F ⟨2, ![512, d4]⟩ .f32 :=
  concatenate ⟨2, ![512, d4]⟩ 1
    [⟨⟨2, ![512, d]⟩, mulf (extractStridedSlice ⟨2, ![512, d]⟩ ![0, 0] y h.s3q) (extractStridedSlice ⟨2, ![512, d]⟩ ![0, d] y h.s3k)⟩,
      ⟨⟨2, ![512, d]⟩, extractStridedSlice ⟨2, ![512, d]⟩ ![0, 0] y h.s3q⟩,
      ⟨⟨2, ![512, d]⟩, extractStridedSlice ⟨2, ![512, d]⟩ ![0, d] y h.s3k⟩,
      ⟨⟨2, ![512, d]⟩, extractStridedSlice ⟨2, ![512, d]⟩ ![0, d2] y h.s3v⟩] h.join

/-- One neighbour's logits, from the scores `w` of the round that picks it. -/
def logitAt (h : FitsD d d2 d3 d4) (inv : F .f32) (kp zq : FVec F ⟨2, ![512, d]⟩ .f32) (tab : FVec F ⟨2, ![512, d4]⟩ .f32)
    (w : FVec F S512x512 .f32) : FVec F ⟨2, ![512, d]⟩ .f32 := logitV h inv kp zq (gatherV tab (pickV w))

/-- One neighbour's values. -/
def valueAt (h : FitsD d d2 d3 d4) (tab : FVec F ⟨2, ![512, d4]⟩ .f32) (w : FVec F S512x512 .f32) :
    FVec F ⟨2, ![512, d]⟩ .f32 := extractStridedSlice ⟨2, ![512, d]⟩ ![0, d3] (gatherV tab (pickV w)) h.s4d

end

section
variable {s : Shape}

/-- The largest of sixteen. -/
def max16 (l0 l1 l2 l3 l4 l5 l6 l7 l8 l9 l10 l11 l12 l13 l14 l15 : FVec F s .f32) : FVec F s .f32 :=
  maximumf (maximumf (maximumf (maximumf (maximumf (maximumf (maximumf (maximumf (maximumf (maximumf (maximumf (maximumf
    (maximumf (maximumf (maximumf l0 l1) l2) l3) l4) l5) l6) l7) l8) l9) l10) l11) l12) l13) l14) l15

/-- The sum of sixteen. -/
def sum16 (l0 l1 l2 l3 l4 l5 l6 l7 l8 l9 l10 l11 l12 l13 l14 l15 : FVec F s .f32) : FVec F s .f32 :=
  addf (addf (addf (addf (addf (addf (addf (addf (addf (addf (addf (addf (addf (addf (addf l0 l1) l2) l3) l4) l5) l6)
    l7) l8) l9) l10) l11) l12) l13) l14) l15

/-- The mean of the values `v` in the softmax weights of the logits `l`. -/
def mean16 (l0 l1 l2 l3 l4 l5 l6 l7 l8 l9 l10 l11 l12 l13 l14 l15
    v0 v1 v2 v3 v4 v5 v6 v7 v8 v9 v10 v11 v12 v13 v14 v15 : FVec F s .f32) : FVec F s .f32 :=
  divf
    (sum16 (mulf (exp (subf l0 (max16 l0 l1 l2 l3 l4 l5 l6 l7 l8 l9 l10 l11 l12 l13 l14 l15))) v0) (mulf (exp (subf l1 (max16 l0
    l1 l2 l3 l4 l5 l6 l7 l8 l9 l10 l11 l12 l13 l14 l15))) v1) (mulf (exp (subf l2 (max16 l0 l1 l2 l3 l4 l5 l6 l7 l8 l9 l10
    l11 l12 l13 l14 l15))) v2) (mulf (exp (subf l3 (max16 l0 l1 l2 l3 l4 l5 l6 l7 l8 l9 l10 l11 l12 l13 l14 l15))) v3)
    (mulf (exp (subf l4 (max16 l0 l1 l2 l3 l4 l5 l6 l7 l8 l9 l10 l11 l12 l13 l14 l15))) v4) (mulf (exp (subf l5 (max16 l0
    l1 l2 l3 l4 l5 l6 l7 l8 l9 l10 l11 l12 l13 l14 l15))) v5) (mulf (exp (subf l6 (max16 l0 l1 l2 l3 l4 l5 l6 l7 l8 l9 l10
    l11 l12 l13 l14 l15))) v6) (mulf (exp (subf l7 (max16 l0 l1 l2 l3 l4 l5 l6 l7 l8 l9 l10 l11 l12 l13 l14 l15))) v7)
    (mulf (exp (subf l8 (max16 l0 l1 l2 l3 l4 l5 l6 l7 l8 l9 l10 l11 l12 l13 l14 l15))) v8) (mulf (exp (subf l9 (max16 l0
    l1 l2 l3 l4 l5 l6 l7 l8 l9 l10 l11 l12 l13 l14 l15))) v9) (mulf (exp (subf l10 (max16 l0 l1 l2 l3 l4 l5 l6 l7 l8 l9
    l10 l11 l12 l13 l14 l15))) v10) (mulf (exp (subf l11 (max16 l0 l1 l2 l3 l4 l5 l6 l7 l8 l9 l10 l11 l12 l13 l14 l15)))
    v11) (mulf (exp (subf l12 (max16 l0 l1 l2 l3 l4 l5 l6 l7 l8 l9 l10 l11 l12 l13 l14 l15))) v12) (mulf (exp (subf l13
    (max16 l0 l1 l2 l3 l4 l5 l6 l7 l8 l9 l10 l11 l12 l13 l14 l15))) v13) (mulf (exp (subf l14 (max16 l0 l1 l2 l3 l4 l5 l6
    l7 l8 l9 l10 l11 l12 l13 l14 l15))) v14) (mulf (exp (subf l15 (max16 l0 l1 l2 l3 l4 l5 l6 l7 l8 l9 l10 l11 l12 l13 l14
    l15))) v15))
    (sum16 (exp (subf l0 (max16 l0 l1 l2 l3 l4 l5 l6 l7 l8 l9 l10 l11 l12 l13 l14 l15))) (exp (subf l1 (max16 l0 l1 l2 l3 l4 l5
    l6 l7 l8 l9 l10 l11 l12 l13 l14 l15))) (exp (subf l2 (max16 l0 l1 l2 l3 l4 l5 l6 l7 l8 l9 l10 l11 l12 l13 l14 l15)))
    (exp (subf l3 (max16 l0 l1 l2 l3 l4 l5 l6 l7 l8 l9 l10 l11 l12 l13 l14 l15))) (exp (subf l4 (max16 l0 l1 l2 l3 l4 l5
    l6 l7 l8 l9 l10 l11 l12 l13 l14 l15))) (exp (subf l5 (max16 l0 l1 l2 l3 l4 l5 l6 l7 l8 l9 l10 l11 l12 l13 l14 l15)))
    (exp (subf l6 (max16 l0 l1 l2 l3 l4 l5 l6 l7 l8 l9 l10 l11 l12 l13 l14 l15))) (exp (subf l7 (max16 l0 l1 l2 l3 l4 l5
    l6 l7 l8 l9 l10 l11 l12 l13 l14 l15))) (exp (subf l8 (max16 l0 l1 l2 l3 l4 l5 l6 l7 l8 l9 l10 l11 l12 l13 l14 l15)))
    (exp (subf l9 (max16 l0 l1 l2 l3 l4 l5 l6 l7 l8 l9 l10 l11 l12 l13 l14 l15))) (exp (subf l10 (max16 l0 l1 l2 l3 l4 l5
    l6 l7 l8 l9 l10 l11 l12 l13 l14 l15))) (exp (subf l11 (max16 l0 l1 l2 l3 l4 l5 l6 l7 l8 l9 l10 l11 l12 l13 l14 l15)))
    (exp (subf l12 (max16 l0 l1 l2 l3 l4 l5 l6 l7 l8 l9 l10 l11 l12 l13 l14 l15))) (exp (subf l13 (max16 l0 l1 l2 l3 l4 l5
    l6 l7 l8 l9 l10 l11 l12 l13 l14 l15))) (exp (subf l14 (max16 l0 l1 l2 l3 l4 l5 l6 l7 l8 l9 l10 l11 l12 l13 l14 l15)))
    (exp (subf l15 (max16 l0 l1 l2 l3 l4 l5 l6 l7 l8 l9 l10 l11 l12 l13 l14 l15))))

end

section
variable {C C1 d d2 d3 d4 : ℕ}

/-- One layer, from the scores `w`, the products `y`, `z` of its input with the two weight arrays and the position term `p`. -/
def attendV (h : FitsD d d2 d3 d4) (w : FVec F S512x512 .f32) (inv : F .f32) (kp zq zv p : FVec F ⟨2, ![512, d]⟩ .f32)
    (tab : FVec F ⟨2, ![512, d4]⟩ .f32) : FVec F ⟨2, ![512, d]⟩ .f32 :=
  addf (addf (mean16
    (logitAt h inv kp zq tab w) (logitAt h inv kp zq tab (roundV w 1)) (logitAt h inv kp zq tab (roundV w 2)) (logitAt h
    inv kp zq tab (roundV w 3)) (logitAt h inv kp zq tab (roundV w 4)) (logitAt h inv kp zq tab (roundV w 5)) (logitAt h
    inv kp zq tab (roundV w 6)) (logitAt h inv kp zq tab (roundV w 7)) (logitAt h inv kp zq tab (roundV w 8)) (logitAt h
    inv kp zq tab (roundV w 9)) (logitAt h inv kp zq tab (roundV w 10)) (logitAt h inv kp zq tab (roundV w 11)) (logitAt h
    inv kp zq tab (roundV w 12)) (logitAt h inv kp zq tab (roundV w 13)) (logitAt h inv kp zq tab (roundV w 14)) (logitAt
    h inv kp zq tab (roundV w 15))
    (valueAt h tab w) (valueAt h tab (roundV w 1)) (valueAt h tab (roundV w 2)) (valueAt h tab (roundV w 3)) (valueAt h
    tab (roundV w 4)) (valueAt h tab (roundV w 5)) (valueAt h tab (roundV w 6)) (valueAt h tab (roundV w 7)) (valueAt h
    tab (roundV w 8)) (valueAt h tab (roundV w 9)) (valueAt h tab (roundV w 10)) (valueAt h tab (roundV w 11)) (valueAt h
    tab (roundV w 12)) (valueAt h tab (roundV w 13)) (valueAt h tab (roundV w 14)) (valueAt h tab (roundV w 15))) zv) p

/-- One layer. -/
def layerV (hc : FitsC C C1) (h : FitsD d d2 d3 d4) (inv : F .f32)
    (x : FVec F ⟨2, ![512, C]⟩ .f32) (y z : FVec F ⟨2, ![512, d3]⟩ .f32)
    (p : FVec F ⟨2, ![512, d]⟩ .f32) : FVec F ⟨2, ![512, d]⟩ .f32 :=
  attendV h (scoresV hc x) inv (addf (extractStridedSlice ⟨2, ![512, d]⟩ ![0, d] z h.s3k) p)
    (extractStridedSlice ⟨2, ![512, d]⟩ ![0, 0] z h.s3q) (extractStridedSlice ⟨2, ![512, d]⟩ ![0, d2] z h.s3v) p (tableV h y)

end

end Cloud

end
-- ==== Proof.KernelBlock.lean ====
module

public import proofs.«01_k».proof.Proof.KernelTerm

@[expose] public section

noncomputable section

namespace Cloud

open Idealize.ShloMosaic Idealize.ShloMosaic.TcCoe Cert.KernelIdeal Cert.KernelIdeal.Gen

theorem chans8 : FitsC 8 9 := ⟨reduces_S512x8_S512, concatenates_S512x8_S512x1_S512x9_d1⟩

theorem chans64 : FitsC 64 65 := ⟨reduces_S512x64_S512, concatenates_S512x64_S512x1_S512x65_d1⟩

theorem heads64 : FitsD 64 128 192 256 := ⟨slices_S512x192_o0_0_S512x64, slices_S512x192_o0_64_S512x64,
  slices_S512x192_o0_128_S512x64, concatenates_S512x64_S512x64_S512x64_S512x64_S512x256_d1, slices_S512x256_o0_0_S512x64,
  slices_S512x256_o0_64_S512x64, slices_S512x256_o0_128_S512x64, slices_S512x256_o0_192_S512x64⟩

theorem heads128 : FitsD 128 256 384 512 := ⟨slices_S512x384_o0_0_S512x128, slices_S512x384_o0_128_S512x128,
  slices_S512x384_o0_256_S512x128, concatenates_S512x128_S512x128_S512x128_S512x128_S512x512_d1, slices_S512x512_o0_0_S512x128,
  slices_S512x512_o0_128_S512x128, slices_S512x512_o0_256_S512x128, slices_S512x512_o0_384_S512x128⟩

variable {F : FTy → Type} [FloatOps F] [Named F]

/-- The pooling: each feature's largest value over the points, then its mean. -/
def poolV (a b : FVec F S512x64 .f32) (c : FVec F S512x128 .f32) : FVec F S1x1x512 .f32 :=
  shapeCast S1x1x512 (concatenate S512 0
    [⟨S256, multiReduction .maximumf [0] S256 (concatenate S512x256 1 [⟨S512x64, a⟩, ⟨S512x64, b⟩, ⟨S512x128, c⟩]
      concatenates_S512x64_S512x64_S512x128_S512x256_d1) 0xFF800000#32 reduces_S512x256_S256 (.inl rfl) rfl⟩,
    ⟨S256, mulf (multiReduction .add [0] S256 (concatenate S512x256 1 [⟨S512x64, a⟩, ⟨S512x64, b⟩, ⟨S512x128, c⟩]
      concatenates_S512x64_S512x64_S512x128_S512x256_d1) 0x00000000#32 reduces_S512x256_S256 (.inl rfl) rfl)
      (broadcast S256 (Scalar.ofBits .f32 0x3B000000#32))⟩] concatenates_S256_S256_S512_d0) shapeCasts_S512_S1x1x512

section
variable (x0 : Vec F S1x512x8 .f32) (x1 x2 : Vec F S8x192 .f32) (x3 : Vec F S8x64 .f32) (x4 x5 : Vec F S64x192 .f32)
  (x6 : Vec F S8x64 .f32) (x7 x8 : Vec F S64x384 .f32) (x9 : Vec F S8x128 .f32)

/-- The points of one cloud. -/
abbrev pts (x0 : Vec F S1x512x8 .f32) : FVec F S512x8 .f32 := shapeCast S512x8 x0 shapeCasts_S1x512x8_S512x8

/-- What the first layer leaves. -/
def first : FVec F S512x64 .f32 :=
  layerV chans8 heads64 (Scalar.ofBits .f32 0x3E000000#32) (pts x0)
    (matmul (DotDims.plain 512 8 192) none (pts x0) x1 (constant S512x192 .f32 0x00000000#32))
    (matmul (DotDims.plain 512 8 192) none (pts x0) x2 (constant S512x192 .f32 0x00000000#32))
    (matmul (DotDims.plain 512 8 64) none (pts x0) x3 (constant S512x64 .f32 0x00000000#32))

/-- What the second layer leaves. -/
def second : FVec F S512x64 .f32 :=
  layerV chans64 heads64 (Scalar.ofBits .f32 0x3E000000#32) (first x0 x1 x2 x3)
    (matmul (DotDims.plain 512 64 192) none (first x0 x1 x2 x3) x4 (constant S512x192 .f32 0x00000000#32))
    (matmul (DotDims.plain 512 64 192) none (first x0 x1 x2 x3) x5 (constant S512x192 .f32 0x00000000#32))
    (matmul (DotDims.plain 512 8 64) none (pts x0) x6 (constant S512x64 .f32 0x00000000#32))

/-- What the third layer leaves. -/
def third : FVec F S512x128 .f32 :=
  layerV chans64 heads128 (Named.named κ "inv_sqrt_128" 0x3DB504F3#32) (second x0 x1 x2 x3 x4 x5 x6)
    (matmul (DotDims.plain 512 64 384) none (second x0 x1 x2 x3 x4 x5 x6) x7 (constant S512x384 .f32 0x00000000#32))
    (matmul (DotDims.plain 512 64 384) none (second x0 x1 x2 x3 x4 x5 x6) x8 (constant S512x384 .f32 0x00000000#32))
    (matmul (DotDims.plain 512 8 128) none (pts x0) x9 (constant S512x128 .f32 0x00000000#32))

/-- The block a grid point writes. -/
def blockV : FVec F S1x1x512 .f32 :=
  poolV (first x0 x1 x2 x3) (second x0 x1 x2 x3 x4 x5 x6) (third x0 x1 x2 x3 x4 x5 x6 x7 x8 x9)

end

theorem hz3 : (![0, 0, 0] : Fin 3 → Nat) = fun _ => 0 := funext fun a => by fin_cases a <;> rfl
theorem hz2 : (![0, 0] : Fin 2 → Nat) = fun _ => 0 := funext fun a => by fin_cases a <;> rfl

theorem pool_fold (a b : FVec F S512x64 .f32) (c : FVec F S512x128 .f32) :
    shapeCast S1x1x512 (concatenate S512 0
    [⟨S256, multiReduction .maximumf [0] S256 (concatenate S512x256 1 [⟨S512x64, a⟩, ⟨S512x64, b⟩, ⟨S512x128, c⟩]
      concatenates_S512x64_S512x64_S512x128_S512x256_d1) 0xFF800000#32 reduces_S512x256_S256 (.inl rfl) rfl⟩,
    ⟨S256, mulf (multiReduction .add [0] S256 (concatenate S512x256 1 [⟨S512x64, a⟩, ⟨S512x64, b⟩, ⟨S512x128, c⟩]
      concatenates_S512x64_S512x64_S512x128_S512x256_d1) 0x00000000#32 reduces_S512x256_S256 (.inl rfl) rfl)
      (broadcast S256 (Scalar.ofBits .f32 0x3B000000#32))⟩] concatenates_S256_S256_S512_d0) shapeCasts_S512_S1x1x512
      = poolV a b c := rfl

section
variable {C C1 d d2 d3 d4 : ℕ}

theorem lane_fold : (sitofp .f32 (iota .tc S512x512 32 [1] iota_S512x512_d1_w32) : FVec F S512x512 .f32) = lane := rfl

theorem scores_fold (hr : (⟨2, ![512, C]⟩ : Shape).Reduces [1] S512)
    (hj : Shape.Concatenates [⟨2, ![512, C]⟩, S512x1] ⟨2, ![512, C1]⟩ 1) (x : FVec F ⟨2, ![512, C]⟩ .f32) :
    matmul (DotDims.transposedRhs 512 C1 512) none
      (concatenate ⟨2, ![512, C1]⟩ 1 [⟨⟨2, ![512, C]⟩, mulf (broadcast ⟨2, ![512, C]⟩ (Scalar.ofBits .f32 0x40000000#32)) x⟩,
        ⟨S512x1, broadcast S512x1 (Scalar.ofBits .f32 0x3F800000#32)⟩] hj)
      (concatenate ⟨2, ![512, C1]⟩ 1 [⟨⟨2, ![512, C]⟩, x⟩,
        ⟨S512x1, subf (broadcast S512x1 (Scalar.ofBits .f32 0x00000000#32))
          (shapeCast S512x1 (multiReduction .add [1] S512 (mulf x x) 0x00000000#32 hr (.inl rfl) rfl) shapeCasts_S512_S512x1)⟩] hj)
      (constant S512x512 .f32 0x00000000#32) = scoresV ⟨hr, hj⟩ x := rfl

theorem cand_fold (w : FVec F S512x512 .f32) :
    select (cmpf .oeq w (broadcastTo S512x512 (shapeCast S512x1
      (multiReduction .maximumf [1] S512 w 0xFF800000#32 reduces_S512x512_S512 (.inl rfl) rfl) shapeCasts_S512_S512x1)
      broadcasts_S512x1_S512x512)) lane (broadcast S512x512 (Scalar.ofBits .f32 0x7F61B1E6#32)) = candV w := rfl

theorem pick_fold (w : FVec F S512x512 .f32) :
    shapeCast S512x1 (multiReduction .minimumf [1] S512 (candV w) 0x7F800000#32 reduces_S512x512_S512 (.inl rfl) rfl)
      shapeCasts_S512_S512x1 = pickV w := rfl

theorem rest_fold (w : FVec F S512x512 .f32) :
    select (cmpf .oeq (candV w) (broadcastTo S512x512 (pickV w) broadcasts_S512x1_S512x512))
      (broadcast S512x512 (Named.named κ "taken" 0xFF61B1E6#32)) w = restV w := rfl

theorem gather_fold (tab : FVec F ⟨2, ![512, d4]⟩ .f32) (j : FVec F S512x1 .f32) :
    matmul (DotDims.plain 512 512 d4) none
      (select (cmpf .oeq lane (broadcastTo S512x512 j broadcasts_S512x1_S512x512))
        (broadcast S512x512 (Scalar.ofBits .f32 0x3F800000#32)) (broadcast S512x512 (Scalar.ofBits .f32 0x00000000#32)))
      tab (constant ⟨2, ![512, d4]⟩ .f32 0x00000000#32) = gatherV tab j := rfl

theorem round_fold (hc : FitsC C C1) (x : FVec F ⟨2, ![512, C]⟩ .f32) :
    restV (scoresV hc x) = roundV (scoresV hc x) 1 := rfl

theorem round_fold' (w : FVec F S512x512 .f32) (n : ℕ) : restV (roundV w n) = roundV w (n + 1) := rfl

theorem logit_fold (h : FitsD d d2 d3 d4) (inv : F .f32) (kp zq : FVec F ⟨2, ![512, d]⟩ .f32)
    (tab : FVec F ⟨2, ![512, d4]⟩ .f32) (w : FVec F S512x512 .f32) :
    mulf (addf (addf (extractStridedSlice ⟨2, ![512, d]⟩ ![0, 0] (gatherV tab (pickV w)) h.s4a)
      (mulf (extractStridedSlice ⟨2, ![512, d]⟩ ![0, d] (gatherV tab (pickV w)) h.s4b) kp))
      (mulf (extractStridedSlice ⟨2, ![512, d]⟩ ![0, d2] (gatherV tab (pickV w)) h.s4c) zq)) (broadcast ⟨2, ![512, d]⟩ inv)
      = logitAt h inv kp zq tab w := rfl

theorem value_fold (h : FitsD d d2 d3 d4) (tab : FVec F ⟨2, ![512, d4]⟩ .f32) (w : FVec F S512x512 .f32) :
    extractStridedSlice ⟨2, ![512, d]⟩ ![0, d3] (gatherV tab (pickV w)) h.s4d = valueAt h tab w := rfl

theorem table_fold (h : FitsD d d2 d3 d4) (y : FVec F ⟨2, ![512, d3]⟩ .f32) :
    concatenate ⟨2, ![512, d4]⟩ 1
      [⟨⟨2, ![512, d]⟩, mulf (extractStridedSlice ⟨2, ![512, d]⟩ ![0, 0] y h.s3q) (extractStridedSlice ⟨2, ![512, d]⟩ ![0, d] y h.s3k)⟩,
        ⟨⟨2, ![512, d]⟩, extractStridedSlice ⟨2, ![512, d]⟩ ![0, 0] y h.s3q⟩,
        ⟨⟨2, ![512, d]⟩, extractStridedSlice ⟨2, ![512, d]⟩ ![0, d] y h.s3k⟩,
        ⟨⟨2, ![512, d]⟩, extractStridedSlice ⟨2, ![512, d]⟩ ![0, d2] y h.s3v⟩] h.join = tableV h y := rfl

theorem layer_fold (hc : FitsC C C1) (h : FitsD d d2 d3 d4) (inv : F .f32) (x : FVec F ⟨2, ![512, C]⟩ .f32)
    (y z : FVec F ⟨2, ![512, d3]⟩ .f32) (p : FVec F ⟨2, ![512, d]⟩ .f32) :
    attendV h (scoresV hc x) inv (addf (extractStridedSlice ⟨2, ![512, d]⟩ ![0, d] z h.s3k) p)
      (extractStridedSlice ⟨2, ![512, d]⟩ ![0, 0] z h.s3q) (extractStridedSlice ⟨2, ![512, d]⟩ ![0, d2] z h.s3v) p (tableV h y)
      = layerV hc h inv x y z p := rfl

end

theorem dots256 : dot_S512x512_S512x256_S512x256_1_0_0_1_n_n = DotDims.plain 512 512 256 := rfl
theorem dots512 : dot_S512x512_S512x512_S512x512_1_0_0_1_n_n = DotDims.plain 512 512 512 := rfl
theorem dots9 : dot_S512x9_S512x9_S512x512_1_1_0_0_n_n = DotDims.transposedRhs 512 9 512 := rfl
theorem dots65 : dot_S512x65_S512x65_S512x512_1_1_0_0_n_n = DotDims.transposedRhs 512 65 512 := rfl

theorem dotsA : dot_S512x8_S8x64_S512x64_1_0_0_1_n_n = DotDims.plain 512 8 64 := rfl
theorem dotsB : dot_S512x8_S8x192_S512x192_1_0_0_1_n_n = DotDims.plain 512 8 192 := rfl
theorem dotsC : dot_S512x64_S64x192_S512x192_1_0_0_1_n_n = DotDims.plain 512 64 192 := rfl
theorem dotsD : dot_S512x8_S8x128_S512x128_1_0_0_1_n_n = DotDims.plain 512 8 128 := rfl
theorem dotsE : dot_S512x64_S64x384_S512x384_1_0_0_1_n_n = DotDims.plain 512 64 384 := rfl

end Cloud

end
-- ==== Proof.Picks.lean ====
/-
  The sixteen nearest neighbours, two ways.

  One side repeats a round: take the least position at which a row of scores is greatest, then put `⊥` there. The other sorts the row
  stably, greater scores first. `sortedFrom_eq_taken` says that round `r` takes the position that the sort puts at `r`.
-/
module

public import Idealize.ShloMosaic.Lib.SortPrefix
public import Idealize.ShloMosaic.Lib.SortFacts
public import Mathlib.Data.EReal.Basic
public import Mathlib.Data.Fintype.Card

@[expose] public section

noncomputable section

namespace Cloud

open Idealize.ShloMosaic

variable {n : ℕ} [NeZero n]

/-- `p` is the least position at which `w` is greatest. -/
def IsPick (w : Fin n → EReal) (p : Fin n) : Prop := (∀ k, w k ≤ w p) ∧ ∀ k, k < p → w k < w p

omit [NeZero n] in
theorem IsPick.unique {w : Fin n → EReal} {p q : Fin n} (hp : IsPick w p) (hq : IsPick w q) : p = q := by
  rcases lt_trichotomy p q with h | h | h
  · exact absurd (hp.1 q) (not_le.mpr (hq.2 p h))
  · exact h
  · exact absurd (hq.1 p) (not_le.mpr (hp.2 q h))

theorem exists_pick (w : Fin n → EReal) : ∃ p, IsPick w p := by
  classical
  obtain ⟨m, -, hm⟩ := Finset.exists_max_image (Finset.univ : Finset (Fin n)) w Finset.univ_nonempty
  let S := Finset.univ.filter fun k : Fin n => w k = w m
  have hS : S.Nonempty := ⟨m, by simp [S]⟩
  have hmin : w (S.min' hS) = w m := by
    have := S.min'_mem hS
    simpa [S] using this
  refine ⟨S.min' hS, fun k => hmin ▸ hm k (Finset.mem_univ _), fun k hk => ?_⟩
  rw [hmin]
  refine lt_of_le_of_ne (hm k (Finset.mem_univ _)) fun h => ?_
  exact absurd (S.min'_le k (by simp [S, h])) (not_le.mpr hk)

/-- The position that one round takes. -/
def pick (w : Fin n → EReal) : Fin n := (exists_pick w).choose
theorem pick_spec (w : Fin n → EReal) : IsPick w (pick w) := (exists_pick w).choose_spec

/-- The scores after `r` rounds. -/
def after (w : Fin n → EReal) : ℕ → Fin n → EReal
  | 0 => w
  | r + 1 => Function.update (after w r) (pick (after w r)) ⊥

/-- The position that round `r` takes. -/
def taken (w : Fin n → EReal) (r : ℕ) : Fin n := pick (after w r)

theorem after_of_taken (w : Fin n → EReal) (r i : ℕ) (h : i < r) : after w r (taken w i) = ⊥ := by
  induction r with
  | zero => omega
  | succ r ih =>
    show Function.update (after w r) (pick (after w r)) ⊥ (taken w i) = ⊥
    by_cases e : taken w i = pick (after w r)
    · rw [e, Function.update_self]
    · rw [Function.update_of_ne e]
      refine ih (lt_of_le_of_ne (by omega) fun hi => e (by rw [hi]; rfl))

theorem after_of_left (w : Fin n → EReal) (r : ℕ) (k : Fin n) (h : ∀ i < r, taken w i ≠ k) : after w r k = w k := by
  induction r with
  | zero => rfl
  | succ r ih =>
    show Function.update (after w r) (pick (after w r)) ⊥ k = w k
    rw [Function.update_of_ne fun e : k = pick (after w r) => h r (by omega) e.symm]
    exact ih fun i hi => h i (by omega)

variable (w : Fin n → EReal) (hw : ∀ k, w k ≠ ⊥)
include hw

/-- A round takes a position that no round before took. -/
theorem taken_ne {r : ℕ} (hr : r < n) {i : ℕ} (hi : i < r) : taken w i ≠ taken w r := by
  classical
  intro e
  have hc : ((Finset.range r).image (taken w)).card < (Finset.univ : Finset (Fin n)).card := by
    refine lt_of_le_of_lt Finset.card_image_le ?_
    simpa using hr
  obtain ⟨k, -, hk⟩ := Finset.exists_mem_notMem_of_card_lt_card hc
  have hk' : ∀ i < r, taken w i ≠ k := fun i hi e => hk (Finset.mem_image.mpr ⟨i, Finset.mem_range.mpr hi, e⟩)
  have h1 := (pick_spec (after w r)).1 k
  rw [after_of_left w r k hk'] at h1
  have h2 : after w r (pick (after w r)) = ⊥ := by
    show after w r (taken w r) = ⊥
    rw [← e]; exact after_of_taken w r i hi
  rw [h2] at h1
  exact hw k (le_bot_iff.mp h1)

/-- "Greater score, then lower position". -/
def before (w : Fin n → EReal) (k k' : Fin n) : Bool := decide (w k' < w k) || (decide (w k = w k') && decide (k < k'))

omit hw [NeZero n] in
theorem before_total : StrictTotalBefore (before w) :=
  StrictTotalBefore.of_key_then_position (fun a b : EReal => decide (b < a)) w (fun a => by simp)
    (fun a b c hab hbc => by
      simp only [decide_eq_true_eq] at *
      exact hbc.trans hab)
    (fun a b => by
      simp only [decide_eq_true_eq]
      rcases lt_trichotomy a b with h | h | h
      · exact .inr (.inr h)
      · exact .inr (.inl h)
      · exact .inl h)

/-- A position that no earlier round took is not before the one that a round takes. -/
theorem not_before_taken {r : ℕ} (hr : r < n) (k : Fin n) (h : ∀ i < r, taken w i ≠ k) : before w k (taken w r) = false := by
  have hp := pick_spec (after w r)
  have e1 : after w r k = w k := after_of_left w r k h
  have e2 : after w r (taken w r) = w (taken w r) := after_of_left w r _ fun i hi => taken_ne w hw hr hi
  have hle : w k ≤ w (taken w r) := by rw [← e1, ← e2]; exact hp.1 k
  rw [before, Bool.or_eq_false_iff, Bool.and_eq_false_iff]
  refine ⟨decide_eq_false (not_lt.mpr hle), ?_⟩
  by_cases hlt : k < taken w r
  · refine .inl (decide_eq_false fun e => ?_)
    have := hp.2 k hlt
    rw [e1] at this
    change w k < after w r (taken w r) at this
    rw [e2, e] at this
    exact lt_irrefl _ this
  · exact .inr (decide_eq_false hlt)

omit hw [NeZero n] in
/-- A stable sort of a list reads its comparator only at pairs (later, earlier). -/
theorem stableSort_congr_pairs {ι : Type} (R B : ι → ι → Bool) (l : List ι) (hl : l.Pairwise fun a b => R b a = B b a) :
    stableSort R l = stableSort B l := by
  induction l with
  | nil => rfl
  | cons a l ih =>
    rw [List.pairwise_cons] at hl
    unfold stableSort
    rw [ih hl.2]
    exact insertBefore_congr R B a _ fun b hb => hl.1 b ((perm_stableSort B l).mem_iff.mp hb)

omit hw [NeZero n] in
/-- A stable sort by the scores alone is the sort by the scores and then the positions. -/
theorem sortedFrom_scores : sortedFrom (fun k k' => decide (w k' < w k)) = sortedFrom (before w) := by
  funext k
  unfold sortedFrom
  refine List.get_of_eq (stableSort_congr_pairs _ _ _ ?_) _
  refine (List.pairwise_lt_finRange n).imp fun {a b} hab => ?_
  simp [before, not_lt.mpr hab.le]

/-- **Round `r` takes the position that the stable sort puts at `r`.** -/
theorem sortedFrom_eq_taken {m : ℕ} (hm : m ≤ n) (r : Fin m) :
    sortedFrom (fun k k' => decide (w k' < w k)) (r.castLE hm) = taken w r := by
  rw [sortedFrom_scores]
  refine (before_total w).sortedFrom_eq_of_prefix hm (fun r : Fin m => taken w r) ?_ ?_ ?_ r
  · intro i j e
    rcases lt_trichotomy i j with h | h | h
    · exact absurd e (taken_ne w hw (by omega) h)
    · exact h
    · exact absurd e.symm (taken_ne w hw (by omega) h)
  · intro i j hij
    refine not_before_taken w hw (by omega) _ fun l hl => taken_ne w hw (by omega) (hl.trans hij)
  · intro i p hp
    exact not_before_taken w hw (by omega) p fun l hl => hp ⟨l, by omega⟩

omit hw in
/-- Which position a round takes depends only on which score is less than which. -/
theorem taken_congr (v w : Fin n → EReal) (hv : ∀ k, v k ≠ ⊥) (hw : ∀ k, w k ≠ ⊥) (h : ∀ k k', v k < v k' ↔ w k < w k')
    (r : ℕ) (hr : r < n) : taken v r = taken w r := by
  have e1 := sortedFrom_eq_taken v hv (m := n) le_rfl ⟨r, hr⟩
  have e2 := sortedFrom_eq_taken w hw (m := n) le_rfl ⟨r, hr⟩
  simp only [h] at e1
  exact e1.symm.trans e2

end Cloud

end
-- ==== Proof.Attn.lean ====
/-
  One attention layer over real numbers, two ways.

  `plainLayer` is the textbook's: each neighbour's feature is (neighbour minus centre, centre), multiplied with the three weight
  arrays. `fusedLayer` multiplies the points with the weights first and reads the neighbours' products. `fused_eq_plain` says that
  they are one function.
-/
module

public import proofs.«01_k».proof.Proof.Picks
public import Mathlib.Analysis.SpecialFunctions.Exp
public import Mathlib.Algebra.BigOperators.Field

@[expose] public section

noncomputable section

namespace Cloud

open Finset

/-- The mean of the values `v` in the softmax weights of the logits `l`. -/
def wmean {ι : Type} [Fintype ι] (l v : ι → ℝ) : ℝ := (∑ r, Real.exp (l r) * v r) / ∑ r, Real.exp (l r)

section
variable {ι : Type} [Fintype ι] (l v : ι → ℝ) (c : ℝ)

/-- A softmax does not see a constant added to every logit. -/
theorem wmean_shift : wmean (fun r => l r + c) v = wmean l v := by
  have h1 : ∑ r, Real.exp (l r + c) * v r = (∑ r, Real.exp (l r) * v r) * Real.exp c := by
    rw [Finset.sum_mul]
    exact Finset.sum_congr rfl fun r _ => by rw [Real.exp_add]; ring
  have h2 : ∑ r, Real.exp (l r + c) = (∑ r, Real.exp (l r)) * Real.exp c := by
    rw [Finset.sum_mul]
    exact Finset.sum_congr rfl fun r _ => Real.exp_add _ _
  unfold wmean
  rw [h1, h2, mul_div_mul_right _ _ (Real.exp_ne_zero c)]

theorem exp_sum_pos [Nonempty ι] : 0 < ∑ r, Real.exp (l r) :=
  Finset.sum_pos (fun r _ => Real.exp_pos _) Finset.univ_nonempty

/-- A constant added to every value comes out of the mean. -/
theorem wmean_add [Nonempty ι] : wmean l (fun r => v r + c) = wmean l v + c := by
  have h := (exp_sum_pos l).ne'
  unfold wmean
  simp only [mul_add, Finset.sum_add_distrib, ← Finset.sum_mul]
  rw [add_div, mul_div_cancel_left₀ _ h]

/-- The mean as a sum of values times normalized weights. -/
theorem wmean_weights : ∑ r, Real.exp (l r) / (∑ r', Real.exp (l r')) * v r = wmean l v := by
  unfold wmean
  rw [Finset.sum_div]
  exact Finset.sum_congr rfl fun r _ => by ring

end

section
variable {C d : ℕ}

/-- A point's squared length. -/
def sq (X : Fin 512 → Fin C → ℝ) (n : Fin 512) : ℝ := ∑ c, X n c * X n c
/-- Two points' inner product. -/
def inner2 (X : Fin 512 → Fin C → ℝ) (n m : Fin 512) : ℝ := ∑ c, X n c * X m c
/-- Minus the squared distance of two points. -/
def near (X : Fin 512 → Fin C → ℝ) (n m : Fin 512) : ℝ := -sq X n - -2 * inner2 X n m - sq X m
/-- The same up to a constant of the row `n`. -/
def score (X : Fin 512 → Fin C → ℝ) (n m : Fin 512) : ℝ := 2 * inner2 X n m - sq X m

theorem near_lt (X : Fin 512 → Fin C → ℝ) (n k k' : Fin 512) : near X n k < near X n k' ↔ score X n k < score X n k' := by
  unfold near score
  constructor <;> intro h <;> linarith

/-- The `r`-th nearest neighbour of point `n`. -/
def nbr (X : Fin 512 → Fin C → ℝ) (n : Fin 512) (r : Fin 16) : Fin 512 := taken (fun m => ((score X n m : ℝ) : EReal)) r

/-- The stable sort by the distances puts the neighbours first. -/
theorem sortedFrom_near (X : Fin 512 → Fin C → ℝ) (n : Fin 512) (r : Fin 16) :
    Idealize.ShloMosaic.sortedFrom (fun k k' => decide (((near X n k' : ℝ) : EReal) < ((near X n k : ℝ) : EReal)))
      (r.castLE (by decide : 16 ≤ 512)) = nbr X n r := by
  rw [sortedFrom_eq_taken (fun m => ((near X n m : ℝ) : EReal)) (fun _ => EReal.coe_ne_bot _) (by decide) r]
  refine taken_congr _ _ (fun _ => EReal.coe_ne_bot _) (fun _ => EReal.coe_ne_bot _) (fun k k' => ?_) r (by omega)
  rw [EReal.coe_lt_coe_iff, EReal.coe_lt_coe_iff]
  exact near_lt X n k k'

/-- The product of a neighbour's feature (neighbour minus centre, centre) with the two halves of a weight array. -/
def edge (X : Fin 512 → Fin C → ℝ) (Wt Wb : Fin C → Fin d → ℝ) (n : Fin 512) (r : Fin 16) (j : Fin d) : ℝ :=
  (∑ c, (X (nbr X n r) c - X n c) * Wt c j) + ∑ c, X n c * Wb c j

/-- One layer of the textbook's. -/
def plainLayer (X : Fin 512 → Fin C → ℝ) (Qt Qb Kt Kb Vt Vb : Fin C → Fin d → ℝ) (P : Fin 512 → Fin d → ℝ) (s : ℝ)
    (n : Fin 512) (j : Fin d) : ℝ :=
  wmean (fun r : Fin 16 => edge X Qt Qb n r j * (edge X Kt Kb n r j + P n j) / s) (fun r => edge X Vt Vb n r j + P n j)

/-- The product of the points with a weight array. -/
def rows (X : Fin 512 → Fin C → ℝ) (W : Fin C → Fin d → ℝ) (n : Fin 512) (j : Fin d) : ℝ := ∑ c, X n c * W c j

/-- One layer from the products `y` with the upper halves and `z` with the differences (lower minus upper). -/
def fusedLayer (nb : Fin 512 → Fin 16 → Fin 512) (Yq Yk Yv Zq Zk Zv P : Fin 512 → Fin d → ℝ) (inv : ℝ)
    (n : Fin 512) (j : Fin d) : ℝ :=
  wmean (fun r : Fin 16 => (Yq (nb n r) j * Yk (nb n r) j + Yq (nb n r) j * (Zk n j + P n j) + Yk (nb n r) j * Zq n j) * inv)
    (fun r => Yv (nb n r) j) + Zv n j + P n j

theorem edge_eq (X : Fin 512 → Fin C → ℝ) (Wt Wb : Fin C → Fin d → ℝ) (n : Fin 512) (r : Fin 16) (j : Fin d) :
    edge X Wt Wb n r j = rows X Wt (nbr X n r) j + rows X (fun c j => Wb c j - Wt c j) n j := by
  unfold edge rows
  rw [← Finset.sum_add_distrib, ← Finset.sum_add_distrib]
  exact Finset.sum_congr rfl fun c _ => by ring

/-- **The two layers are one function.** -/
theorem fused_eq_plain (X : Fin 512 → Fin C → ℝ) (Qt Qb Kt Kb Vt Vb : Fin C → Fin d → ℝ) (P : Fin 512 → Fin d → ℝ) (s : ℝ) :
    fusedLayer (nbr X) (rows X Qt) (rows X Kt) (rows X Vt) (rows X fun c j => Qb c j - Qt c j)
      (rows X fun c j => Kb c j - Kt c j) (rows X fun c j => Vb c j - Vt c j) P s⁻¹ = plainLayer X Qt Qb Kt Kb Vt Vb P s := by
  funext n j
  unfold fusedLayer plainLayer
  simp only [edge_eq]
  rw [wmean_add, ← wmean_shift (fun r : Fin 16 => (_ : ℝ)) _
    (rows X (fun c j => Qb c j - Qt c j) n j * (rows X (fun c j => Kb c j - Kt c j) n j + P n j) / s), wmean_add]
  congr 3
  funext r
  ring

end

end Cloud

end
-- ==== Proof.KernelRead.lean ====
/-
  What the kernel's steps are over real numbers: the scores, the rounds that pick the nearest neighbours, the table rows they read.
-/
module

public import proofs.«01_k».proof.Proof.KernelBlock
public import proofs.«01_k».proof.Proof.Attn
public import Idealize.ShloMosaic.Lib.MatmulPlain
public import Idealize.ShloMosaic.Lib.ValueLayout
public import Idealize.ShloMosaic.Lib.ValueLayoutCasts
public import Idealize.ShloMosaic.Lib.IdealHost

@[expose] public section

noncomputable section

namespace Cloud

open Idealize.ShloMosaic Idealize.ShloMosaic.ValueIdx Cert.KernelIdeal Cert.KernelIdeal.Gen

/-- An array whose elements are the real numbers `g`. -/
def Real2 {a b : ℕ} (f : FVec Ideal ⟨2, ![a, b]⟩ .f32) (g : Fin a → Fin b → ℝ) : Prop :=
  ∀ i j, f (ix2 i j) = ((g i j : ℝ) : EReal)

/-! ### Numbers -/

theorem word_zero : Ideal.ofBits .f32 0x00000000#32 = ((0 : ℝ) : EReal) := by
  simp [Ideal.ofBits, Ideal.ieee]
theorem word_two : Ideal.ofBits .f32 0x40000000#32 = ((2 : ℝ) : EReal) := by
  simp [Ideal.ofBits, Ideal.ieee, -EReal.coe_mul]; norm_num
theorem word_one : Ideal.ofBits .f32 0x3F800000#32 = ((1 : ℝ) : EReal) := by
  simp [Ideal.ofBits, Ideal.ieee, -EReal.coe_mul]; norm_num
theorem word_eighth : Ideal.ofBits .f32 0x3E000000#32 = (((8 : ℝ)⁻¹ : ℝ) : EReal) := by
  simp [Ideal.ofBits, Ideal.ieee, -EReal.coe_mul]; norm_num
theorem word_top : Ideal.ofBits .f32 0x7F800000#32 = ⊤ := by
  simp [Ideal.ofBits, Ideal.ieee]
theorem word_bot : Ideal.ofBits .f32 0xFF800000#32 = ⊥ := by
  simp [Ideal.ofBits, Ideal.ieee]
theorem word_far : ((512 : ℝ) : EReal) < Ideal.ofBits .f32 0x7F61B1E6#32 := by
  simp [Ideal.ofBits, Ideal.ieee, -EReal.coe_mul]; norm_num

theorem sum_coe {ι : Type} (s : Finset ι) (f : ι → ℝ) : ∑ k ∈ s, ((f k : ℝ) : EReal) = ((∑ k ∈ s, f k : ℝ) : EReal) := by
  classical
  induction s using Finset.induction_on with
  | empty => simp
  | insert a s h ih => rw [Finset.sum_insert h, Finset.sum_insert h, ih, EReal.coe_add]

theorem select_oeq (x y a b : EReal) : Scalar.select (Ideal.cmp .oeq x y) a b = if x = y then a else b := by
  by_cases h : x = y <;> simp [Scalar.select, Ideal.cmp, h]

theorem div_coe (x y : ℝ) (h : y ≠ 0) : Ideal.div (x : EReal) (y : EReal) = ((x / y : ℝ) : EReal) := by
  have h' : (y : EReal) ≠ 0 := by exact_mod_cast h
  rw [Ideal.div, if_neg h', div_eq_mul_inv, EReal.coe_mul, EReal.coe_inv]

theorem fold_max_eq {n : ℕ} (f : Fin n → EReal) (p : Fin n) (h : ∀ k, f k ≤ f p) :
    (Finset.univ : Finset (Fin n)).fold max ⊥ f = f p :=
  le_antisymm ((Finset.fold_max_le _).2 ⟨bot_le, fun k _ => h k⟩) ((Finset.le_fold_max _).2 (.inr ⟨p, Finset.mem_univ _, le_rfl⟩))

theorem fold_min_eq {n : ℕ} (f : Fin n → EReal) (p : Fin n) (h : ∀ k, f p ≤ f k) :
    (Finset.univ : Finset (Fin n)).fold min ⊤ f = f p :=
  le_antisymm ((Finset.fold_min_le _).2 (.inr ⟨p, Finset.mem_univ _, le_rfl⟩)) ((Finset.le_fold_min _).2 ⟨le_top, fun k _ => h k⟩)

/-! ### Layout -/

theorem lift_row {a b : ℕ} (h : (⟨2, ![a, b]⟩ : Shape).Reduces [1] ⟨1, ![a]⟩) (n : Fin a) (k : Fin b) :
    h.lift (ix1 n) k = ix2 n k := by
  funext c
  match c with
  | ⟨0, _⟩ => rfl
  | ⟨1, _⟩ => rfl

theorem col_apply (v : FVec Ideal S512x1 .f32) (n m : Fin 512) :
    broadcastTo S512x512 v broadcasts_S512x1_S512x512 (ix2 n m) = v (ix2 n (0 : Fin 1)) :=
  broadcastTo_apply _ _ _ _ fun c => match c with
    | ⟨0, _⟩ => rfl
    | ⟨1, _⟩ => rfl

theorem join_left {a b c : ℕ} (u : FVec Ideal ⟨2, ![a, b]⟩ .f32) (v : FVec Ideal ⟨2, ![a, 1]⟩ .f32)
    (h : Shape.Concatenates [⟨2, ![a, b]⟩, ⟨2, ![a, 1]⟩] ⟨2, ![a, c]⟩ 1) (n : Fin a) (k : Fin b) (k' : Fin c) (hk : k'.val = k.val) :
    concatenate ⟨2, ![a, c]⟩ 1 [⟨⟨2, ![a, b]⟩, u⟩, ⟨⟨2, ![a, 1]⟩, v⟩] h (ix2 n k') = u (ix2 n k) :=
  concatenate_pair_apply_left (t := ⟨2, ![a, c]⟩) (s₁ := ⟨2, ![a, b]⟩) (s₂ := ⟨2, ![a, 1]⟩) 1 u v h (ix2 n k') rfl (ix2 n k)
    fun (e : Fin 2) => match e with
      | ⟨0, _⟩ => rfl
      | ⟨1, _⟩ => hk.symm

theorem join_right {a b c : ℕ} (u : FVec Ideal ⟨2, ![a, b]⟩ .f32) (v : FVec Ideal ⟨2, ![a, 1]⟩ .f32)
    (h : Shape.Concatenates [⟨2, ![a, b]⟩, ⟨2, ![a, 1]⟩] ⟨2, ![a, c]⟩ 1) (n : Fin a) (k' : Fin c) (hk : k'.val = b) :
    concatenate ⟨2, ![a, c]⟩ 1 [⟨⟨2, ![a, b]⟩, u⟩, ⟨⟨2, ![a, 1]⟩, v⟩] h (ix2 n k') = v (ix2 n (0 : Fin 1)) :=
  concatenate_pair_apply_right (t := ⟨2, ![a, c]⟩) (s₁ := ⟨2, ![a, b]⟩) (s₂ := ⟨2, ![a, 1]⟩) 1 u v h (ix2 n k') rfl rfl
    (ix2 n (0 : Fin 1)) (fun (e : Fin 2) => match e with
      | ⟨0, _⟩ => fun _ => rfl
      | ⟨1, _⟩ => fun hne => absurd rfl hne) (by show 0 + b = k'.val; omega)

theorem row_add {C : ℕ} (u : FVec Ideal ⟨2, ![512, C]⟩ .f32) (h : (⟨2, ![512, C]⟩ : Shape).Reduces [1] S512)
    (hφ : FKind.Formats .f32) (hacc : 0x00000000#32 = FKind.add.neutral .f32 hφ) (n : Fin 512) :
    multiReduction .add [1] S512 u 0x00000000#32 h hφ hacc (ix1 n) = ∑ k : Fin C, u (ix2 n k) := by
  rw [Ideal.multiReduction_add_single]
  exact Finset.sum_congr rfl fun k _ => congrArg u (lift_row h n k)

/-! ### Scores -/

theorem joined_dot {C : ℕ} (u v : FVec Ideal ⟨2, ![512, C]⟩ .f32) (u1 v1 : FVec Ideal S512x1 .f32)
    (h : Shape.Concatenates [⟨2, ![512, C]⟩, S512x1] ⟨2, ![512, C + 1]⟩ 1) (n m : Fin 512) :
    FloatOps.matmul (DotDims.transposedRhs 512 (C + 1) 512) none
      (concatenate ⟨2, ![512, C + 1]⟩ 1 [⟨⟨2, ![512, C]⟩, u⟩, ⟨S512x1, u1⟩] h)
      (concatenate ⟨2, ![512, C + 1]⟩ 1 [⟨⟨2, ![512, C]⟩, v⟩, ⟨S512x1, v1⟩] h) (constant S512x512 .f32 0x00000000#32) (ix2 n m)
      = (∑ k : Fin C, u (ix2 n k) * v (ix2 m k)) + u1 (ix2 n (0 : Fin 1)) * v1 (ix2 m (0 : Fin 1)) := by
  rw [Ideal.matmul_transposedRhs_apply, Fin.sum_univ_castSucc, join_right u u1 h n (Fin.last C) rfl,
    join_right v v1 h m (Fin.last C) rfl,
    Finset.sum_congr rfl fun k _ => congrArg₂ (· * ·) (join_left u u1 h n k k.castSucc rfl) (join_left v v1 h m k k.castSucc rfl)]
  show Ideal.ofBits .f32 0x00000000#32 + _ = _
  rw [word_zero, EReal.coe_zero, zero_add]

theorem scores_apply {C : ℕ} (h : FitsC C (C + 1)) (x : FVec Ideal ⟨2, ![512, C]⟩ .f32) (X : Fin 512 → Fin C → ℝ) (hx : Real2 x X) :
    Real2 (scoresV h x) (score X) := by
  intro n m
  refine (joined_dot _ _ _ _ h.join n m).trans ?_
  have e1 : ∀ k : Fin C, Ideal.ofBits .f32 0x40000000#32 * x (ix2 n k) * x (ix2 m k) = ((2 * (X n k * X m k) : ℝ) : EReal) := by
    intro k
    rw [word_two, hx, hx, ← EReal.coe_mul, ← EReal.coe_mul, mul_assoc]
  have e2 : ∀ hφ hacc, (multiReduction .add [1] S512 (mulf x x) 0x00000000#32 h.rows hφ hacc) (ix1 m) = ((sq X m : ℝ) : EReal) := by
    intro hφ hacc
    rw [row_add, sq, ← sum_coe]
    refine Finset.sum_congr rfl fun k _ => ?_
    show x (ix2 m k) * x (ix2 m k) = _
    rw [hx, EReal.coe_mul]
  have e3 : ∀ hφ hacc, Ideal.ofBits .f32 0x00000000#32 - shapeCast S512x1 (multiReduction .add [1] S512 (mulf x x) 0x00000000#32 h.rows hφ hacc)
      shapeCasts_S512_S512x1 (ix2 m (0 : Fin 1)) = ((0 - sq X m : ℝ) : EReal) := by
    intro hφ hacc
    rw [word_zero, shapeCast_a_a1_apply, e2, EReal.coe_sub]
  refine (congrArg₂ (· + ·) (Finset.sum_congr rfl fun k _ => e1 k) (congrArg₂ (· * ·) word_one (e3 _ _))).trans ?_
  show (_ : EReal) + ((1 : ℝ) : EReal) * ((0 - sq X m : ℝ) : EReal) = _
  rw [sum_coe, ← EReal.coe_mul, ← EReal.coe_add]
  congr 1
  unfold score inner2
  rw [← Finset.mul_sum]
  ring

/-! ### Picks -/

/-- Row `n` of an array. -/
def row (w : FVec Ideal S512x512 .f32) (n : Fin 512) : Fin 512 → EReal := fun m => w (ix2 n m)

theorem lane_apply (n m : Fin 512) : lane (F := Ideal) (ix2 n m) = ((m.val : ℝ) : EReal) := by
  show (((BitVec.ofNat 32 (0 * 512 + m.val)).toInt : ℝ) : EReal) = _
  have e : (BitVec.ofNat 32 (0 * 512 + m.val)).toInt = (m.val : ℤ) := by
    have := m.isLt
    rw [BitVec.toInt_eq_toNat_of_lt] <;> rw [BitVec.toNat_ofNat] <;> omega
  rw [e]
  norm_cast

theorem cand_apply (w : FVec Ideal S512x512 .f32) (n m : Fin 512) :
    candV w (ix2 n m) = if row w n m = row w n (pick (row w n)) then ((m.val : ℝ) : EReal) else Ideal.ofBits .f32 0x7F61B1E6#32 := by
  show Scalar.select (Ideal.cmp .oeq (w (ix2 n m)) (broadcastTo S512x512 _ broadcasts_S512x1_S512x512 (ix2 n m))) (lane (ix2 n m))
    (Ideal.ofBits .f32 0x7F61B1E6#32) = _
  rw [select_oeq, col_apply, shapeCast_a_a1_apply, lane_apply]
  have e : ∀ hφ hacc, multiReduction .maximumf [1] S512 w 0xFF800000#32 reduces_S512x512_S512 hφ hacc (ix1 n)
      = row w n (pick (row w n)) := by
    intro hφ hacc
    rw [Ideal.multiReduction_maximumf_single]
    have e' : w ∘ reduces_S512x512_S512.lift (ix1 n) = row w n := funext fun k => congrArg w (lift_row _ n k)
    rw [e']
    show Finset.univ.fold max (Ideal.ofBits .f32 0xFF800000#32) _ = _
    rw [word_bot]
    exact fold_max_eq _ _ (pick_spec (row w n)).1
  exact congrArg (fun t => if row w n m = t then ((m.val : ℝ) : EReal) else Ideal.ofBits .f32 0x7F61B1E6#32) (e _ _)

theorem far (p : Fin 512) : ((p.val : ℝ) : EReal) < Ideal.ofBits .f32 0x7F61B1E6#32 := by
  refine lt_of_le_of_lt (EReal.coe_le_coe_iff.mpr ?_) word_far
  exact_mod_cast p.isLt.le

theorem cand_pick (w : FVec Ideal S512x512 .f32) (n : Fin 512) :
    candV w (ix2 n (pick (row w n))) = (((pick (row w n)).val : ℝ) : EReal) := by
  rw [cand_apply, if_pos rfl]

theorem pick_apply (w : FVec Ideal S512x512 .f32) (n : Fin 512) :
    pickV w (ix2 n (0 : Fin 1)) = (((pick (row w n)).val : ℝ) : EReal) := by
  unfold pickV
  rw [shapeCast_a_a1_apply]
  refine (multiReduction_minimumf_eq_fold (F := Ideal) (candV w) _ reduces_S512x512_S512 _ _ (ix1 n)).trans ?_
  refine (reduces_S512x512_S512.fold_filter_drop_single _ _ (candV w) (ix1 n)).trans ?_
  have e' : candV w ∘ reduces_S512x512_S512.lift (ix1 n) = fun m => candV w (ix2 n m) :=
    funext fun k => congrArg (candV w) (lift_row _ n k)
  rw [e', ← cand_pick w n]
  show Finset.univ.fold min (Ideal.ofBits .f32 0x7F800000#32) _ = _
  rw [word_top]
  refine fold_min_eq (fun m => candV w (ix2 n m)) (pick (row w n)) fun k => ?_
  show candV w (ix2 n (pick (row w n))) ≤ candV w (ix2 n k)
  rw [cand_pick, cand_apply]
  split
  · next h =>
    refine EReal.coe_le_coe_iff.mpr ?_
    have : pick (row w n) ≤ k := not_lt.mp fun hlt => absurd h ((pick_spec (row w n)).2 k hlt).ne
    exact_mod_cast this
  · exact (far _).le

theorem rest_apply (w : FVec Ideal S512x512 .f32) (n : Fin 512) :
    row (restV w) n = Function.update (row w n) (pick (row w n)) ⊥ := by
  funext m
  show Scalar.select (Ideal.cmp .oeq (candV w (ix2 n m)) (broadcastTo S512x512 (pickV w) broadcasts_S512x1_S512x512 (ix2 n m)))
    (Named.named (F := Ideal) (φ := .f32) κ "taken" 0xFF61B1E6#32) (w (ix2 n m)) = _
  rw [select_oeq, col_apply, pick_apply, Function.update_apply]
  have hn : Named.named (F := Ideal) (φ := .f32) κ "taken" 0xFF61B1E6#32 = (⊥ : EReal) := rfl
  rw [hn]
  refine if_congr ?_ rfl rfl
  constructor
  · intro h
    rw [cand_apply] at h
    split at h
    · have h := EReal.coe_eq_coe_iff.mp h
      exact Fin.ext (by exact_mod_cast h)
    · exact absurd h.symm (far _).ne
  · rintro rfl
    exact cand_pick w n

theorem round_apply (w : FVec Ideal S512x512 .f32) (n : Fin 512) (r : ℕ) : row (roundV w r) n = after (row w n) r := by
  induction r with
  | zero => rfl
  | succ r ih =>
    show row (restV (roundV w r)) n = Function.update (after (row w n) r) (pick (after (row w n) r)) ⊥
    rw [rest_apply, ih]

/-- Round `r` picks the `r`-th nearest neighbour. -/
theorem pick_round {w : FVec Ideal S512x512 .f32} {C : ℕ} {X : Fin 512 → Fin C → ℝ} (hw : Real2 w (score X)) (n : Fin 512) (r : Fin 16) :
    pickV (roundV w r) (ix2 n (0 : Fin 1)) = (((nbr X n r).val : ℝ) : EReal) := by
  rw [pick_apply, round_apply]
  have e : row w n = fun m => ((score X n m : ℝ) : EReal) := funext fun m => hw n m
  rw [e]
  rfl

/-! ### Table rows -/

theorem gather_apply {d4 : ℕ} (tab : FVec Ideal ⟨2, ![512, d4]⟩ .f32) (j : FVec Ideal S512x1 .f32) (n p : Fin 512) (c : Fin d4)
    (hj : j (ix2 n (0 : Fin 1)) = ((p.val : ℝ) : EReal)) : gatherV tab j (ix2 n c) = tab (ix2 p c) := by
  unfold gatherV
  show FloatOps.matmul (DotDims.plain 512 512 d4) none _ _ _ (ix2 n c) = _
  rw [Ideal.matmul_plain_apply]
  have e : ∀ k : Fin 512, (select (cmpf .oeq lane (broadcastTo S512x512 j broadcasts_S512x1_S512x512))
      (broadcast S512x512 (Scalar.ofBits (F := Ideal) .f32 0x3F800000#32))
      (broadcast S512x512 (Scalar.ofBits (F := Ideal) .f32 0x00000000#32))) (ix2 n k) = if k = p then (1 : EReal) else 0 := by
    intro k
    show Scalar.select (Ideal.cmp .oeq (lane (F := Ideal) (ix2 n k)) (broadcastTo S512x512 j broadcasts_S512x1_S512x512 (ix2 n k)))
      (Ideal.ofBits .f32 0x3F800000#32) (Ideal.ofBits .f32 0x00000000#32) = _
    rw [select_oeq, col_apply, hj, lane_apply, word_one, word_zero]
    refine if_congr ⟨fun h => ?_, fun h => by rw [h]⟩ rfl rfl
    have h := EReal.coe_eq_coe_iff.mp h
    exact Fin.ext (by exact_mod_cast h)
  rw [Finset.sum_congr rfl fun k _ => congrArg (· * tab (ix2 k c)) (e k)]
  rw [Finset.sum_eq_single p (fun k _ hk => by rw [if_neg hk, zero_mul]) (fun h => absurd (Finset.mem_univ _) h), if_pos rfl, one_mul]
  show Ideal.ofBits .f32 0x00000000#32 + _ = _
  rw [word_zero, EReal.coe_zero, zero_add]

end Cloud

end
-- ==== Proof.KernelLayer.lean ====
/-
  One layer of the kernel is `fusedLayer`, over real numbers.
-/
module

public import proofs.«01_k».proof.Proof.KernelRead

@[expose] public section

noncomputable section

namespace Cloud

open Idealize.ShloMosaic Idealize.ShloMosaic.ValueIdx Cert.KernelIdeal Cert.KernelIdeal.Gen

/-! ### The softmax mean of sixteen -/

theorem sum_sixteen (f : Fin 16 → ℝ) : ∑ r, f r = f 0 + f 1 + f 2 + f 3 + f 4 + f 5 + f 6 + f 7 + f 8 + f 9 + f 10 + f 11 + f 12
    + f 13 + f 14 + f 15 := by
  simp only [Fin.sum_univ_castSucc, Fin.sum_univ_zero, zero_add]
  rfl

theorem max_real {a b : EReal} (ha : ∃ x : ℝ, a = x) (hb : ∃ y : ℝ, b = y) : ∃ z : ℝ, max a b = z := by
  obtain ⟨x, rfl⟩ := ha
  obtain ⟨y, rfl⟩ := hb
  exact ⟨max x y, (EReal.coe_strictMono.monotone.map_max).symm⟩

theorem mean16_apply {s : Shape} (l v : Fin 16 → FVec Ideal s .f32) (i : s.Idx) (L V : Fin 16 → ℝ)
    (hl : ∀ r, l r i = ((L r : ℝ) : EReal)) (hv : ∀ r, v r i = ((V r : ℝ) : EReal)) :
    mean16 (l 0) (l 1) (l 2) (l 3) (l 4) (l 5) (l 6) (l 7) (l 8) (l 9) (l 10) (l 11) (l 12) (l 13) (l 14) (l 15)
      (v 0) (v 1) (v 2) (v 3) (v 4) (v 5) (v 6) (v 7) (v 8) (v 9) (v 10) (v 11) (v 12) (v 13) (v 14) (v 15) i
      = ((wmean L V : ℝ) : EReal) := by
  have hr : ∀ r, ∃ x : ℝ, l r i = x := fun r => ⟨L r, hl r⟩
  obtain ⟨M, hM⟩ : ∃ M : ℝ, max16 (l 0) (l 1) (l 2) (l 3) (l 4) (l 5) (l 6) (l 7) (l 8) (l 9) (l 10) (l 11) (l 12) (l 13) (l 14)
      (l 15) i = M :=
    max_real (max_real (max_real (max_real (max_real (max_real (max_real (max_real (max_real (max_real (max_real (max_real
      (max_real (max_real (max_real (hr 0) (hr 1)) (hr 2)) (hr 3)) (hr 4)) (hr 5)) (hr 6)) (hr 7)) (hr 8)) (hr 9)) (hr 10))
      (hr 11)) (hr 12)) (hr 13)) (hr 14)) (hr 15)
  have e : ∀ r, exp (subf (l r) (max16 (l 0) (l 1) (l 2) (l 3) (l 4) (l 5) (l 6) (l 7) (l 8) (l 9) (l 10) (l 11) (l 12) (l 13)
      (l 14) (l 15))) i = ((Real.exp (L r + -M) : ℝ) : EReal) := by
    intro r
    show Ideal.exp (l r i - max16 (l 0) (l 1) (l 2) (l 3) (l 4) (l 5) (l 6) (l 7) (l 8) (l 9) (l 10) (l 11) (l 12) (l 13) (l 14)
      (l 15) i) = _
    rw [hM, hl, ← EReal.coe_sub, sub_eq_add_neg]
    rfl
  have s16 : ∀ f : Fin 16 → FVec Ideal s .f32, sum16 (f 0) (f 1) (f 2) (f 3) (f 4) (f 5) (f 6) (f 7) (f 8) (f 9) (f 10) (f 11)
      (f 12) (f 13) (f 14) (f 15) i = f 0 i + f 1 i + f 2 i + f 3 i + f 4 i + f 5 i + f 6 i + f 7 i + f 8 i + f 9 i + f 10 i
        + f 11 i + f 12 i + f 13 i + f 14 i + f 15 i := fun _ => rfl
  have s16' : ∀ (f : Fin 16 → FVec Ideal s .f32) (g : Fin 16 → ℝ), (∀ r, f r i = ((g r : ℝ) : EReal)) →
      sum16 (f 0) (f 1) (f 2) (f 3) (f 4) (f 5) (f 6) (f 7) (f 8) (f 9) (f 10) (f 11)
      (f 12) (f 13) (f 14) (f 15) i = ((∑ r, g r : ℝ) : EReal) := by
    intro f g h
    rw [s16, sum_sixteen]
    simp only [h, EReal.coe_add]
  refine (congrArg₂ Ideal.div
    (s16' (fun r => mulf (exp (subf (l r) (max16 (l 0) (l 1) (l 2) (l 3) (l 4) (l 5) (l 6) (l 7) (l 8) (l 9) (l 10) (l 11) (l 12)
      (l 13) (l 14) (l 15)))) (v r)) (fun r => Real.exp (L r + -M) * V r) fun r => ?_)
    (s16' (fun r => exp (subf (l r) (max16 (l 0) (l 1) (l 2) (l 3) (l 4) (l 5) (l 6) (l 7) (l 8) (l 9) (l 10) (l 11) (l 12)
      (l 13) (l 14) (l 15)))) (fun r => Real.exp (L r + -M)) e)).trans ?_
  · refine (congrArg₂ (· * ·) (e r) (hv r)).trans ?_
    exact (EReal.coe_mul _ _).symm
  · rw [div_coe _ _ (exp_sum_pos fun r => L r + -M).ne', ← wmean_shift L V (-M)]
    rfl

/-! ### Three arrays side by side -/

/-- An array whose columns are `Q`, `K` and `V` side by side. -/
def Heads {a d3 : ℕ} (d d2 : ℕ) (y : FVec Ideal ⟨2, ![a, d3]⟩ .f32) (Q K V : Fin a → Fin d → ℝ) : Prop :=
  (∀ n j (k : Fin d3), k.val = j.val → y (ix2 n k) = ((Q n j : ℝ) : EReal)) ∧
  (∀ n j (k : Fin d3), k.val = d + j.val → y (ix2 n k) = ((K n j : ℝ) : EReal)) ∧
  ∀ n j (k : Fin d3), k.val = d2 + j.val → y (ix2 n k) = ((V n j : ℝ) : EReal)

theorem dot_apply {M C N : ℕ} (x : FVec Ideal ⟨2, ![M, C]⟩ .f32) (w : FVec Ideal ⟨2, ![C, N]⟩ .f32) (n : Fin M) (k : Fin N)
    (X W : Fin C → ℝ) (hx : ∀ c, x (ix2 n c) = ((X c : ℝ) : EReal)) (hw : ∀ c, w (ix2 c k) = ((W c : ℝ) : EReal)) :
    matmul (DotDims.plain M C N) none x w (constant ⟨2, ![M, N]⟩ .f32 0x00000000#32) (ix2 n k) = ((∑ c, X c * W c : ℝ) : EReal) := by
  show FloatOps.matmul (DotDims.plain M C N) none _ _ _ (ix2 n k) = _
  rw [Ideal.matmul_plain_apply, ← sum_coe]
  show Ideal.ofBits .f32 0x00000000#32 + _ = _
  rw [word_zero, EReal.coe_zero, zero_add]
  exact Finset.sum_congr rfl fun c _ => by rw [hx, hw, EReal.coe_mul]

theorem dot_heads {C d d2 d3 : ℕ} {x : FVec Ideal ⟨2, ![512, C]⟩ .f32} {X : Fin 512 → Fin C → ℝ} (hx : Real2 x X)
    {w : FVec Ideal ⟨2, ![C, d3]⟩ .f32} {Q K V : Fin C → Fin d → ℝ} (hw : Heads d d2 w Q K V) :
    Heads d d2 (matmul (DotDims.plain 512 C d3) none x w (constant ⟨2, ![512, d3]⟩ .f32 0x00000000#32)) (rows X Q) (rows X K) (rows X V) :=
  ⟨fun n j k hk => dot_apply x w n k _ (fun c => Q c j) (hx n) fun c => hw.1 c j k hk,
    fun n j k hk => dot_apply x w n k _ (fun c => K c j) (hx n) fun c => hw.2.1 c j k hk,
    fun n j k hk => dot_apply x w n k _ (fun c => V c j) (hx n) fun c => hw.2.2 c j k hk⟩

theorem dot_real {C d : ℕ} {x : FVec Ideal ⟨2, ![512, C]⟩ .f32} {X : Fin 512 → Fin C → ℝ} (hx : Real2 x X)
    {w : FVec Ideal ⟨2, ![C, d]⟩ .f32} {W : Fin C → Fin d → ℝ} (hw : Real2 w W) :
    Real2 (matmul (DotDims.plain 512 C d) none x w (constant ⟨2, ![512, d]⟩ .f32 0x00000000#32)) (rows X W) :=
  fun n j => dot_apply x w n j _ (fun c => W c j) (hx n) fun c => hw c j

section
variable {d d2 d3 d4 : ℕ}

theorem cut_q (h : FitsD d d2 d3 d4) {y : FVec Ideal ⟨2, ![512, d3]⟩ .f32} {Q K V : Fin 512 → Fin d → ℝ} (hy : Heads d d2 y Q K V) :
    Real2 (extractStridedSlice ⟨2, ![512, d]⟩ ![0, 0] y h.s3q) Q := fun n j => by
  have hb : (0 : ℕ) + d ≤ d3 := h.s3q.2 1
  have hj := j.isLt
  rw [slice2_axis1_apply 0 y h.s3q n j ⟨j.val, by omega⟩ (Nat.zero_add _).symm]
  exact hy.1 n j _ rfl

theorem cut_k (h : FitsD d d2 d3 d4) {y : FVec Ideal ⟨2, ![512, d3]⟩ .f32} {Q K V : Fin 512 → Fin d → ℝ} (hy : Heads d d2 y Q K V) :
    Real2 (extractStridedSlice ⟨2, ![512, d]⟩ ![0, d] y h.s3k) K := fun n j => by
  have hb : d + d ≤ d3 := h.s3k.2 1
  have hj := j.isLt
  rw [slice2_axis1_apply d y h.s3k n j ⟨d + j.val, by omega⟩ rfl]
  exact hy.2.1 n j _ rfl

theorem cut_v (h : FitsD d d2 d3 d4) {y : FVec Ideal ⟨2, ![512, d3]⟩ .f32} {Q K V : Fin 512 → Fin d → ℝ} (hy : Heads d d2 y Q K V) :
    Real2 (extractStridedSlice ⟨2, ![512, d]⟩ ![0, d2] y h.s3v) V := fun n j => by
  have hb : d2 + d ≤ d3 := h.s3v.2 1
  have hj := j.isLt
  rw [slice2_axis1_apply d2 y h.s3v n j ⟨d2 + j.val, by omega⟩ rfl]
  exact hy.2.2 n j _ rfl

theorem join_four (p0 p1 p2 p3 : FVec Ideal ⟨2, ![512, d]⟩ .f32)
    (h : Shape.Concatenates [⟨2, ![512, d]⟩, ⟨2, ![512, d]⟩, ⟨2, ![512, d]⟩, ⟨2, ![512, d]⟩] ⟨2, ![512, d4]⟩ 1)
    (n : Fin 512) (j : Fin d) (k : Fin d4) (m : Fin 4) (hk : k.val = m.val * d + j.val) :
    concatenate ⟨2, ![512, d4]⟩ 1 [⟨⟨2, ![512, d]⟩, p0⟩, ⟨⟨2, ![512, d]⟩, p1⟩, ⟨⟨2, ![512, d]⟩, p2⟩, ⟨⟨2, ![512, d]⟩, p3⟩] h (ix2 n k)
      = (![p0, p1, p2, p3] m) (ix2 n j) := by
  have hi : ∀ e : Fin 2, e ≠ 1 → ((ix2 n j : (⟨2, ![512, d]⟩ : Shape).Idx) e).val = ((ix2 n k : (⟨2, ![512, d4]⟩ : Shape).Idx) e).val :=
    fun e => match e with
      | ⟨0, _⟩ => fun _ => rfl
      | ⟨1, _⟩ => fun hne => absurd rfl hne
  refine concatenate_apply_piece (t := ⟨2, ![512, d4]⟩) 1
    [⟨⟨2, ![512, d]⟩, p0⟩, ⟨⟨2, ![512, d]⟩, p1⟩, ⟨⟨2, ![512, d]⟩, p2⟩, ⟨⟨2, ![512, d]⟩, p3⟩] h (ix2 n k) m.val m.isLt
    ⟨2, ![512, d]⟩ (![p0, p1, p2, p3] m) ?_ rfl (m.val * d) ?_ (ix2 n j) hi hk.symm
  · fin_cases m <;> rfl
  · fin_cases m
    · show 0 = 0 * d; omega
    · show d + 0 = 1 * d; omega
    · show d + (d + 0) = 2 * d; omega
    · show d + (d + (d + 0)) = 3 * d; omega

theorem table_apply (h : FitsD d d2 d3 d4) (h2 : d2 = d + d) (h3 : d3 = d + d + d) {y : FVec Ideal ⟨2, ![512, d3]⟩ .f32}
    {Q K V : Fin 512 → Fin d → ℝ} (hy : Heads d d2 y Q K V) (n : Fin 512) (j : Fin d) (k : Fin d4) :
    (k.val = j.val → tableV h y (ix2 n k) = ((Q n j * K n j : ℝ) : EReal)) ∧
    (k.val = d + j.val → tableV h y (ix2 n k) = ((Q n j : ℝ) : EReal)) ∧
    (k.val = d2 + j.val → tableV h y (ix2 n k) = ((K n j : ℝ) : EReal)) ∧
    (k.val = d3 + j.val → tableV h y (ix2 n k) = ((V n j : ℝ) : EReal)) := by
  refine ⟨fun hk => ?_, fun hk => ?_, fun hk => ?_, fun hk => ?_⟩
  · refine (join_four _ _ _ _ h.join n j k 0 (by show k.val = 0 * d + j.val; omega)).trans ?_
    exact (congrArg₂ (· * ·) (cut_q h hy n j) (cut_k h hy n j)).trans (EReal.coe_mul _ _).symm
  · exact (join_four _ _ _ _ h.join n j k 1 (by show k.val = 1 * d + j.val; omega)).trans (cut_q h hy n j)
  · exact (join_four _ _ _ _ h.join n j k 2 (by show k.val = 2 * d + j.val; omega)).trans (cut_k h hy n j)
  · exact (join_four _ _ _ _ h.join n j k 3 (by show k.val = 3 * d + j.val; omega)).trans (cut_v h hy n j)

/-! ### One layer -/

theorem logit_at (h : FitsD d d2 d3 d4) (inv : Ideal .f32) (kp zq : FVec Ideal ⟨2, ![512, d]⟩ .f32) (g : FVec Ideal ⟨2, ![512, d4]⟩ .f32)
    (i : (⟨2, ![512, d]⟩ : Shape).Idx) : logitV h inv kp zq g i = ((extractStridedSlice ⟨2, ![512, d]⟩ ![0, 0] g h.s4a i : EReal)
      + extractStridedSlice ⟨2, ![512, d]⟩ ![0, d] g h.s4b i * kp i + extractStridedSlice ⟨2, ![512, d]⟩ ![0, d2] g h.s4c i * zq i) * inv := rfl

theorem layer_apply {C : ℕ} (hc : FitsC C (C + 1)) (h : FitsD d d2 d3 d4) (h2 : d2 = d + d) (h3 : d3 = d + d + d)
    {x : FVec Ideal ⟨2, ![512, C]⟩ .f32} {X : Fin 512 → Fin C → ℝ} (hx : Real2 x X)
    {y z : FVec Ideal ⟨2, ![512, d3]⟩ .f32} {Q K V Q' K' V' : Fin 512 → Fin d → ℝ} (hy : Heads d d2 y Q K V) (hz : Heads d d2 z Q' K' V')
    {p : FVec Ideal ⟨2, ![512, d]⟩ .f32} {P : Fin 512 → Fin d → ℝ} (hp : Real2 p P)
    {inv : Ideal .f32} {s : ℝ} (hs : inv = ((s : ℝ) : EReal)) :
    Real2 (layerV hc h inv x y z p) (fusedLayer (nbr X) Q K V Q' K' V' P s) := by
  intro n j
  have hw := scores_apply hc x X hx
  have hb : d3 + d ≤ d4 := h.s4d.2 1
  have hj := j.isLt
  have g : ∀ (r : Fin 16) (k : Fin d4), gatherV (tableV h y) (pickV (roundV (scoresV hc x) r)) (ix2 n k) = tableV h y (ix2 (nbr X n r) k) :=
    fun r k => gather_apply _ _ n (nbr X n r) k (pick_round hw n r)
  have hl : ∀ r : Fin 16, logitAt h inv (addf (extractStridedSlice ⟨2, ![512, d]⟩ ![0, d] z h.s3k) p)
      (extractStridedSlice ⟨2, ![512, d]⟩ ![0, 0] z h.s3q) (tableV h y) (roundV (scoresV hc x) r) (ix2 n j)
      = (((Q (nbr X n r) j * K (nbr X n r) j + Q (nbr X n r) j * (K' n j + P n j) + K (nbr X n r) j * Q' n j) * s : ℝ) : EReal) := by
    intro r
    have ea : extractStridedSlice ⟨2, ![512, d]⟩ ![0, 0] (gatherV (tableV h y) (pickV (roundV (scoresV hc x) r))) h.s4a (ix2 n j)
        = ((Q (nbr X n r) j * K (nbr X n r) j : ℝ) : EReal) := by
      rw [slice2_axis1_apply 0 _ h.s4a n j ⟨j.val, by omega⟩ (Nat.zero_add _).symm, g]
      exact (table_apply h h2 h3 hy _ j _).1 rfl
    have eb : extractStridedSlice ⟨2, ![512, d]⟩ ![0, d] (gatherV (tableV h y) (pickV (roundV (scoresV hc x) r))) h.s4b (ix2 n j)
        = ((Q (nbr X n r) j : ℝ) : EReal) := by
      rw [slice2_axis1_apply d _ h.s4b n j ⟨d + j.val, by omega⟩ rfl, g]
      exact (table_apply h h2 h3 hy _ j _).2.1 rfl
    have ec : extractStridedSlice ⟨2, ![512, d]⟩ ![0, d2] (gatherV (tableV h y) (pickV (roundV (scoresV hc x) r))) h.s4c (ix2 n j)
        = ((K (nbr X n r) j : ℝ) : EReal) := by
      rw [slice2_axis1_apply d2 _ h.s4c n j ⟨d2 + j.val, by omega⟩ rfl, g]
      exact (table_apply h h2 h3 hy _ j _).2.2.1 rfl
    have ek : addf (extractStridedSlice ⟨2, ![512, d]⟩ ![0, d] z h.s3k) p (ix2 n j) = ((K' n j + P n j : ℝ) : EReal) :=
      (congrArg₂ (· + ·) (cut_k h hz n j) (hp n j)).trans (EReal.coe_add _ _).symm
    unfold logitAt
    rw [logit_at, ea, eb, ec, ek, cut_q h hz n j, hs]
    simp only [← EReal.coe_add, ← EReal.coe_mul]
  have hv : ∀ r : Fin 16, valueAt h (tableV h y) (roundV (scoresV hc x) r) (ix2 n j) = ((V (nbr X n r) j : ℝ) : EReal) := by
    intro r
    unfold valueAt
    rw [slice2_axis1_apply d3 _ h.s4d n j ⟨d3 + j.val, by omega⟩ rfl, g]
    exact (table_apply h h2 h3 hy _ j _).2.2.2 rfl
  have e := mean16_apply (fun r : Fin 16 => logitAt h inv (addf (extractStridedSlice ⟨2, ![512, d]⟩ ![0, d] z h.s3k) p)
      (extractStridedSlice ⟨2, ![512, d]⟩ ![0, 0] z h.s3q) (tableV h y) (roundV (scoresV hc x) r))
    (fun r : Fin 16 => valueAt h (tableV h y) (roundV (scoresV hc x) r)) (ix2 n j)
    (fun r : Fin 16 => (Q (nbr X n r) j * K (nbr X n r) j + Q (nbr X n r) j * (K' n j + P n j) + K (nbr X n r) j * Q' n j) * s)
    (fun r : Fin 16 => V (nbr X n r) j) hl hv
  refine (congrArg₂ (· + ·) (congrArg₂ (· + ·) e (cut_v h hz n j)) (hp n j)).trans ?_
  show (_ : EReal) + _ + _ = _
  rw [← EReal.coe_add, ← EReal.coe_add]
  rfl

end

end Cloud

end
-- ==== Proof.KernelPrep.lean ====
/-
  The arrays that the host lays out for the kernel: three weight arrays' upper halves side by side, the differences of their halves, and
  rows of zeros below.
-/
module

public import proofs.«01_k».proof.Proof.KernelLayer

@[expose] public section

noncomputable section

namespace Cloud

open Idealize.ShloMosaic Idealize.ShloMosaic.ValueIdx Cert.KernelIdeal Cert.KernelIdeal.Gen

variable {R C d d2 d3 : ℕ}

/-- The upper half of a weight array. -/
def top (h : R = C + C) (W : Fin R → Fin d → ℝ) (c : Fin C) (j : Fin d) : ℝ := W ⟨c.val, by omega⟩ j
/-- The lower half. -/
def low (h : R = C + C) (W : Fin R → Fin d → ℝ) (c : Fin C) (j : Fin d) : ℝ := W ⟨C + c.val, by omega⟩ j
/-- The lower half minus the upper. -/
def step (h : R = C + C) (W : Fin R → Fin d → ℝ) (c : Fin C) (j : Fin d) : ℝ := low h W c j - top h W c j

theorem cut_top (h : R = C + C) {a : FVec Ideal ⟨2, ![R, d]⟩ .f32} {A : Fin R → Fin d → ℝ} (ha : Real2 a A)
    (hs : (⟨2, ![R, d]⟩ : Shape).Slices ![0, 0] ⟨2, ![C, d]⟩) :
    Real2 (extractStridedSlice ⟨2, ![C, d]⟩ ![0, 0] a hs) (top h A) := fun c j =>
  (slice2_axis0_apply 0 a hs c j ⟨c.val, by omega⟩ (Nat.zero_add _).symm).trans (ha _ _)

theorem cut_low (h : R = C + C) {a : FVec Ideal ⟨2, ![R, d]⟩ .f32} {A : Fin R → Fin d → ℝ} (ha : Real2 a A)
    (hs : (⟨2, ![R, d]⟩ : Shape).Slices ![C, 0] ⟨2, ![C, d]⟩) :
    Real2 (extractStridedSlice ⟨2, ![C, d]⟩ ![C, 0] a hs) (low h A) := fun c j =>
  (slice2_axis0_apply C a hs c j ⟨C + c.val, by omega⟩ rfl).trans (ha _ _)

theorem cut_step (h : R = C + C) {a : FVec Ideal ⟨2, ![R, d]⟩ .f32} {A : Fin R → Fin d → ℝ} (ha : Real2 a A)
    (hs : (⟨2, ![R, d]⟩ : Shape).Slices ![0, 0] ⟨2, ![C, d]⟩) (hl : (⟨2, ![R, d]⟩ : Shape).Slices ![C, 0] ⟨2, ![C, d]⟩) :
    Real2 (subf (extractStridedSlice ⟨2, ![C, d]⟩ ![C, 0] a hl) (extractStridedSlice ⟨2, ![C, d]⟩ ![0, 0] a hs)) (step h A) := fun c j => by
  show (extractStridedSlice ⟨2, ![C, d]⟩ ![C, 0] a hl (ix2 c j) : EReal) - extractStridedSlice ⟨2, ![C, d]⟩ ![0, 0] a hs (ix2 c j) = _
  rw [cut_low h ha, cut_top h ha, ← EReal.coe_sub]
  rfl

theorem join_three {a e₀ e₁ e₂ e : ℕ} (p0 : FVec Ideal ⟨2, ![a, e₀]⟩ .f32) (p1 : FVec Ideal ⟨2, ![a, e₁]⟩ .f32) (p2 : FVec Ideal ⟨2, ![a, e₂]⟩ .f32)
    (h : Shape.Concatenates [⟨2, ![a, e₀]⟩, ⟨2, ![a, e₁]⟩, ⟨2, ![a, e₂]⟩] ⟨2, ![a, e]⟩ 1) (n : Fin a) (k : Fin e) :
    (∀ j : Fin e₀, k.val = j.val → concatenate ⟨2, ![a, e]⟩ 1 [⟨⟨2, ![a, e₀]⟩, p0⟩, ⟨⟨2, ![a, e₁]⟩, p1⟩, ⟨⟨2, ![a, e₂]⟩, p2⟩] h (ix2 n k) = p0 (ix2 n j)) ∧
    (∀ j : Fin e₁, k.val = e₀ + j.val → concatenate ⟨2, ![a, e]⟩ 1 [⟨⟨2, ![a, e₀]⟩, p0⟩, ⟨⟨2, ![a, e₁]⟩, p1⟩, ⟨⟨2, ![a, e₂]⟩, p2⟩] h (ix2 n k) = p1 (ix2 n j)) ∧
    (∀ j : Fin e₂, k.val = e₀ + e₁ + j.val → concatenate ⟨2, ![a, e]⟩ 1 [⟨⟨2, ![a, e₀]⟩, p0⟩, ⟨⟨2, ![a, e₁]⟩, p1⟩, ⟨⟨2, ![a, e₂]⟩, p2⟩] h (ix2 n k) = p2 (ix2 n j)) := by
  have hi : ∀ {w : ℕ} (j : Fin w) (x : Fin 2), x ≠ 1 → ((ix2 n j : (⟨2, ![a, w]⟩ : Shape).Idx) x).val = ((ix2 n k : (⟨2, ![a, e]⟩ : Shape).Idx) x).val :=
    fun j x => match x with
      | ⟨0, _⟩ => fun _ => rfl
      | ⟨1, _⟩ => fun hne => absurd rfl hne
  refine ⟨fun j hk => ?_, fun j hk => ?_, fun j hk => ?_⟩
  · exact concatenate_apply_piece (t := ⟨2, ![a, e]⟩) 1 [⟨⟨2, ![a, e₀]⟩, p0⟩, ⟨⟨2, ![a, e₁]⟩, p1⟩, ⟨⟨2, ![a, e₂]⟩, p2⟩] h (ix2 n k) 0 (by show 0 < 3; omega)
      ⟨2, ![a, e₀]⟩ p0 rfl rfl (0) (rfl) (ix2 n j) (hi j) (by show 0 + j.val = k.val; omega)
  · exact concatenate_apply_piece (t := ⟨2, ![a, e]⟩) 1 [⟨⟨2, ![a, e₀]⟩, p0⟩, ⟨⟨2, ![a, e₁]⟩, p1⟩, ⟨⟨2, ![a, e₂]⟩, p2⟩] h (ix2 n k) 1 (by show 1 < 3; omega)
      ⟨2, ![a, e₁]⟩ p1 rfl rfl (e₀) (by show e₀ + 0 = e₀; omega) (ix2 n j) (hi j) (by show e₀ + j.val = k.val; omega)
  · exact concatenate_apply_piece (t := ⟨2, ![a, e]⟩) 1 [⟨⟨2, ![a, e₀]⟩, p0⟩, ⟨⟨2, ![a, e₁]⟩, p1⟩, ⟨⟨2, ![a, e₂]⟩, p2⟩] h (ix2 n k) 2 (by show 2 < 3; omega)
      ⟨2, ![a, e₂]⟩ p2 rfl rfl (e₀ + e₁) (by show e₀ + (e₁ + 0) = e₀ + e₁; omega) (ix2 n j) (hi j) (by show e₀ + e₁ + j.val = k.val; omega)

theorem heads_join (h2 : d2 = d + d) {a b e : FVec Ideal ⟨2, ![C, d]⟩ .f32} {A B E : Fin C → Fin d → ℝ} (ha : Real2 a A) (hb : Real2 b B)
    (he : Real2 e E) (h : Shape.Concatenates [⟨2, ![C, d]⟩, ⟨2, ![C, d]⟩, ⟨2, ![C, d]⟩] ⟨2, ![C, d3]⟩ 1) :
    Heads d d2 (concatenate ⟨2, ![C, d3]⟩ 1 [⟨⟨2, ![C, d]⟩, a⟩, ⟨⟨2, ![C, d]⟩, b⟩, ⟨⟨2, ![C, d]⟩, e⟩] h) A B E :=
  ⟨fun n j k hk => ((join_three a b e h n k).1 j hk).trans (ha n j),
    fun n j k hk => ((join_three a b e h n k).2.1 j hk).trans (hb n j),
    fun n j k hk => ((join_three a b e h n k).2.2 j (by omega)).trans (he n j)⟩

/-! ### Zeros below -/

/-- Rows of zeros below the three. -/
def padRows (W : Fin 3 → Fin d → ℝ) (c : Fin 8) (j : Fin d) : ℝ := if h : c.val < 3 then W ⟨c.val, h⟩ j else 0
/-- Zeros after a point's three coordinates. -/
def padCols (X : Fin 512 → Fin 3 → ℝ) (n : Fin 512) (c : Fin 8) : ℝ := if h : c.val < 3 then X n ⟨c.val, h⟩ else 0

theorem zeros_apply {t : Shape} (h) (i : t.Idx) :
    broadcastInDim t ![] h (constant (F := Ideal) S_ .f32 0x00000000#32) i = ((0 : ℝ) : EReal) :=
  (broadcastInDim_apply (s := S_) (t := t) ![] h (constant (F := Ideal) S_ .f32 0x00000000#32) i (fun a => a.elim0) (fun a => a.elim0)).trans word_zero

theorem pad_apply {e : ℕ} (y : FVec Ideal ⟨2, ![3, e]⟩ .f32) (z : FVec Ideal ⟨2, ![5, e]⟩ .f32) (hz : ∀ i, z i = ((0 : ℝ) : EReal))
    (h : Shape.Concatenates [⟨2, ![3, e]⟩, ⟨2, ![5, e]⟩] ⟨2, ![8, e]⟩ 0) (c : Fin 8) (k : Fin e) :
    concatenate ⟨2, ![8, e]⟩ 0 [⟨⟨2, ![3, e]⟩, y⟩, ⟨⟨2, ![5, e]⟩, z⟩] h (ix2 c k)
      = if hc : c.val < 3 then y (ix2 ⟨c.val, hc⟩ k) else ((0 : ℝ) : EReal) := by
  by_cases hc : c.val < 3
  · rw [dif_pos hc]
    exact concatenate_pair_apply_left (t := ⟨2, ![8, e]⟩) (s₁ := ⟨2, ![3, e]⟩) (s₂ := ⟨2, ![5, e]⟩) 0 y z h (ix2 c k) rfl
      (ix2 ⟨c.val, hc⟩ k) fun (x : Fin 2) => match x with
        | ⟨0, _⟩ => rfl
        | ⟨1, _⟩ => rfl
  · rw [dif_neg hc]
    have h8 := c.isLt
    exact (concatenate_pair_apply_right (t := ⟨2, ![8, e]⟩) (s₁ := ⟨2, ![3, e]⟩) (s₂ := ⟨2, ![5, e]⟩) 0 y z h (ix2 c k) rfl rfl
      (ix2 ⟨c.val - 3, by omega⟩ k) (fun (x : Fin 2) => match x with
        | ⟨0, _⟩ => fun hne => absurd rfl hne
        | ⟨1, _⟩ => fun _ => rfl) (by show c.val - 3 + 3 = c.val; omega)).trans (hz _)

theorem real_pad {y : FVec Ideal ⟨2, ![3, d]⟩ .f32} {W : Fin 3 → Fin d → ℝ} (hy : Real2 y W) {z : FVec Ideal ⟨2, ![5, d]⟩ .f32}
    (hz : ∀ i, z i = ((0 : ℝ) : EReal)) (h : Shape.Concatenates [⟨2, ![3, d]⟩, ⟨2, ![5, d]⟩] ⟨2, ![8, d]⟩ 0) :
    Real2 (concatenate ⟨2, ![8, d]⟩ 0 [⟨⟨2, ![3, d]⟩, y⟩, ⟨⟨2, ![5, d]⟩, z⟩] h) (padRows W) := fun c j => by
  rw [pad_apply y z hz h c j]
  unfold padRows
  split
  · exact hy _ _
  · rfl

theorem heads_pad {y : FVec Ideal ⟨2, ![3, d3]⟩ .f32} {Q K V : Fin 3 → Fin d → ℝ} (hy : Heads d d2 y Q K V)
    {z : FVec Ideal ⟨2, ![5, d3]⟩ .f32} (hz : ∀ i, z i = ((0 : ℝ) : EReal))
    (h : Shape.Concatenates [⟨2, ![3, d3]⟩, ⟨2, ![5, d3]⟩] ⟨2, ![8, d3]⟩ 0) :
    Heads d d2 (concatenate ⟨2, ![8, d3]⟩ 0 [⟨⟨2, ![3, d3]⟩, y⟩, ⟨⟨2, ![5, d3]⟩, z⟩] h) (padRows Q) (padRows K) (padRows V) := by
  have e : ∀ (W : Fin 3 → Fin d → ℝ) (c : Fin 8) (j : Fin d) (k : Fin d3), (∀ c' : Fin 3, y (ix2 c' k) = ((W c' j : ℝ) : EReal)) →
      concatenate ⟨2, ![8, d3]⟩ 0 [⟨⟨2, ![3, d3]⟩, y⟩, ⟨⟨2, ![5, d3]⟩, z⟩] h (ix2 c k) = ((padRows W c j : ℝ) : EReal) := by
    intro W c j k hw
    rw [pad_apply y z hz h c k]
    unfold padRows
    split
    · exact hw _
    · rfl
  exact ⟨fun c j k hk => e Q c j k fun c' => hy.1 c' j k hk, fun c j k hk => e K c j k fun c' => hy.2.1 c' j k hk,
    fun c j k hk => e V c j k fun c' => hy.2.2 c' j k hk⟩

theorem sum_pad (g : Fin 3 → ℝ) : (∑ c : Fin 8, if h : c.val < 3 then g ⟨c.val, h⟩ else 0) = ∑ c, g c := by
  rw [Fin.sum_univ_eight, Fin.sum_univ_three]
  simp

theorem rows_pad (X : Fin 512 → Fin 3 → ℝ) (W : Fin 3 → Fin d → ℝ) : rows (padCols X) (padRows W) = rows X W := by
  funext n j
  refine Eq.trans (Finset.sum_congr rfl fun c _ => ?_) (sum_pad fun c => X n c * W c j)
  unfold padCols padRows
  split <;> simp

theorem score_pad (X : Fin 512 → Fin 3 → ℝ) : score (padCols X) = score X := by
  have e : ∀ n m, ∑ c, padCols X n c * padCols X m c = ∑ c, X n c * X m c := fun n m => by
    refine Eq.trans (Finset.sum_congr rfl fun c _ => ?_) (sum_pad fun c => X n c * X m c)
    unfold padCols
    split <;> simp
  funext n m
  unfold score inner2 sq
  rw [e, e]

theorem nbr_pad (X : Fin 512 → Fin 3 → ℝ) : nbr (padCols X) = nbr X := by
  unfold nbr
  rw [score_pad]

end Cloud

end
-- ==== Proof.KernelHost.lean ====
/-
  What the ten arrays that the kernel reads hold.
-/
module

public import proofs.«01_k».proof.Proof.KernelPrep

@[expose] public section

noncomputable section

namespace Cloud

open Idealize.ShloMosaic Idealize.ShloMosaic.TcCoe Idealize.SL.Sem Cert.KernelIdeal Cert.KernelIdeal.Gen

section
variable (a b e : FVec Ideal S6x64 .f32)

abbrev tops6 : FVec Ideal S3x192 .f32 := concatenate S3x192 1 [⟨S3x64, extractStridedSlice S3x64 ![0, 0] a slices_S6x64_S3x64_0_0⟩,
  ⟨S3x64, extractStridedSlice S3x64 ![0, 0] b slices_S6x64_S3x64_0_0⟩,
  ⟨S3x64, extractStridedSlice S3x64 ![0, 0] e slices_S6x64_S3x64_0_0⟩] concatenates_S3x64_S3x64_S3x64_S3x192_d1

abbrev steps6 : FVec Ideal S3x192 .f32 := concatenate S3x192 1
  [⟨S3x64, subf (extractStridedSlice S3x64 ![3, 0] a slices_S6x64_S3x64_3_0) (extractStridedSlice S3x64 ![0, 0] a slices_S6x64_S3x64_0_0)⟩,
  ⟨S3x64, subf (extractStridedSlice S3x64 ![3, 0] b slices_S6x64_S3x64_3_0) (extractStridedSlice S3x64 ![0, 0] b slices_S6x64_S3x64_0_0)⟩,
  ⟨S3x64, subf (extractStridedSlice S3x64 ![3, 0] e slices_S6x64_S3x64_3_0) (extractStridedSlice S3x64 ![0, 0] e slices_S6x64_S3x64_0_0)⟩]
  concatenates_S3x64_S3x64_S3x64_S3x192_d1

end

abbrev zeros192 : FVec Ideal S5x192 .f32 := broadcastInDim S5x192 ![] bcast_S_S5x192 (constant (F := Ideal) S_ .f32 0x00000000#32)
abbrev zeros64 : FVec Ideal S5x64 .f32 := broadcastInDim S5x64 ![] bcast_S_S5x64 (constant (F := Ideal) S_ .f32 0x00000000#32)
abbrev zeros128 : FVec Ideal S5x128 .f32 := broadcastInDim S5x128 ![] bcast_S_S5x128 (constant (F := Ideal) S_ .f32 0x00000000#32)
abbrev zeros5 : FVec Ideal S32x512x5 .f32 := broadcastInDim S32x512x5 ![] bcast_S_S32x512x5 (constant (F := Ideal) S_ .f32 0x00000000#32)

section
variable (a b e : FVec Ideal S128x64 .f32)

abbrev tops64 : FVec Ideal S64x192 .f32 := concatenate S64x192 1 [⟨S64x64, extractStridedSlice S64x64 ![0, 0] a slices_S128x64_S64x64_0_0⟩,
  ⟨S64x64, extractStridedSlice S64x64 ![0, 0] b slices_S128x64_S64x64_0_0⟩,
  ⟨S64x64, extractStridedSlice S64x64 ![0, 0] e slices_S128x64_S64x64_0_0⟩] concatenates_S64x64_S64x64_S64x64_S64x192_d1

abbrev steps64 : FVec Ideal S64x192 .f32 := concatenate S64x192 1
  [⟨S64x64, subf (extractStridedSlice S64x64 ![64, 0] a slices_S128x64_S64x64_64_0) (extractStridedSlice S64x64 ![0, 0] a slices_S128x64_S64x64_0_0)⟩,
  ⟨S64x64, subf (extractStridedSlice S64x64 ![64, 0] b slices_S128x64_S64x64_64_0) (extractStridedSlice S64x64 ![0, 0] b slices_S128x64_S64x64_0_0)⟩,
  ⟨S64x64, subf (extractStridedSlice S64x64 ![64, 0] e slices_S128x64_S64x64_64_0) (extractStridedSlice S64x64 ![0, 0] e slices_S128x64_S64x64_0_0)⟩]
  concatenates_S64x64_S64x64_S64x64_S64x192_d1

end

section
variable (a b e : FVec Ideal S128x128 .f32)

abbrev tops128 : FVec Ideal S64x384 .f32 := concatenate S64x384 1
  [⟨S64x128, extractStridedSlice S64x128 ![0, 0] a slices_S128x128_S64x128_0_0⟩,
  ⟨S64x128, extractStridedSlice S64x128 ![0, 0] b slices_S128x128_S64x128_0_0⟩,
  ⟨S64x128, extractStridedSlice S64x128 ![0, 0] e slices_S128x128_S64x128_0_0⟩] concatenates_S64x128_S64x128_S64x128_S64x384_d1

abbrev steps128 : FVec Ideal S64x384 .f32 := concatenate S64x384 1
  [⟨S64x128, subf (extractStridedSlice S64x128 ![64, 0] a slices_S128x128_S64x128_64_0) (extractStridedSlice S64x128 ![0, 0] a slices_S128x128_S64x128_0_0)⟩,
  ⟨S64x128, subf (extractStridedSlice S64x128 ![64, 0] b slices_S128x128_S64x128_64_0) (extractStridedSlice S64x128 ![0, 0] b slices_S128x128_S64x128_0_0)⟩,
  ⟨S64x128, subf (extractStridedSlice S64x128 ![64, 0] e slices_S128x128_S64x128_64_0) (extractStridedSlice S64x128 ![0, 0] e slices_S128x128_S64x128_0_0)⟩]
  concatenates_S64x128_S64x128_S64x128_S64x384_d1

end

variable (m : (ℓ : Loc nD τ sig) → Buf (Elt Ideal) ℓ) (c : Dev nD)

theorem V_v1 : (V m c main_v1 : FVec Ideal S32x512x8 .f32) = concatenate S32x512x8 2 [⟨S32x512x3, m ((c : Thread nD τ).loc main_arg0)⟩,
    ⟨S32x512x5, zeros5⟩] concatenates_S32x512x3_S32x512x5_S32x512x8_d2 := rfl

theorem V_v17 : (V m c main_v17 : FVec Ideal S8x192 .f32) = concatenate S8x192 0 [⟨S3x192, tops6 (m ((c : Thread nD τ).loc main_arg1))
    (m ((c : Thread nD τ).loc main_arg2)) (m ((c : Thread nD τ).loc main_arg3))⟩, ⟨S5x192, zeros192⟩] concatenates_S3x192_S5x192_S8x192_d0 := rfl

theorem V_v18 : (V m c main_v18 : FVec Ideal S8x192 .f32) = concatenate S8x192 0 [⟨S3x192, steps6 (m ((c : Thread nD τ).loc main_arg1))
    (m ((c : Thread nD τ).loc main_arg2)) (m ((c : Thread nD τ).loc main_arg3))⟩, ⟨S5x192, zeros192⟩] concatenates_S3x192_S5x192_S8x192_d0 := rfl

theorem V_v22 : (V m c main_v22 : FVec Ideal S64x192 .f32) = tops64 (m ((c : Thread nD τ).loc main_arg5))
    (m ((c : Thread nD τ).loc main_arg6)) (m ((c : Thread nD τ).loc main_arg7)) := rfl

theorem V_v32 : (V m c main_v32 : FVec Ideal S64x192 .f32) = steps64 (m ((c : Thread nD τ).loc main_arg5))
    (m ((c : Thread nD τ).loc main_arg6)) (m ((c : Thread nD τ).loc main_arg7)) := rfl

theorem V_v36 : (V m c main_v36 : FVec Ideal S64x384 .f32) = tops128 (m ((c : Thread nD τ).loc main_arg9))
    (m ((c : Thread nD τ).loc main_arg10)) (m ((c : Thread nD τ).loc main_arg11)) := rfl

theorem V_v46 : (V m c main_v46 : FVec Ideal S64x384 .f32) = steps128 (m ((c : Thread nD τ).loc main_arg9))
    (m ((c : Thread nD τ).loc main_arg10)) (m ((c : Thread nD τ).loc main_arg11)) := rfl

theorem V_v48 : (V m c main_v48 : FVec Ideal S8x64 .f32) = concatenate S8x64 0 [⟨S3x64, m ((c : Thread nD τ).loc main_arg4)⟩,
    ⟨S5x64, zeros64⟩] concatenates_S3x64_S5x64_S8x64_d0 := rfl

theorem V_v50 : (V m c main_v50 : FVec Ideal S8x64 .f32) = concatenate S8x64 0 [⟨S3x64, m ((c : Thread nD τ).loc main_arg8)⟩,
    ⟨S5x64, zeros64⟩] concatenates_S3x64_S5x64_S8x64_d0 := rfl

theorem V_v52 : (V m c main_v52 : FVec Ideal S8x128 .f32) = concatenate S8x128 0 [⟨S3x128, m ((c : Thread nD τ).loc main_arg12)⟩,
    ⟨S5x128, zeros128⟩] concatenates_S3x128_S5x128_S8x128_d0 := rfl

end Cloud

end
-- ==== Proof.KernelPool.lean ====
/-
  What a grid point writes, over real numbers: the three layers' features of every point, pooled.
-/
module

public import proofs.«01_k».proof.Proof.KernelPrep

@[expose] public section

noncomputable section

namespace Cloud

open Idealize.ShloMosaic Idealize.ShloMosaic.ValueIdx Cert.KernelIdeal Cert.KernelIdeal.Gen

/-- Three layers' features of every point, side by side. -/
def feats (A B : Fin 512 → Fin 64 → ℝ) (E : Fin 512 → Fin 128 → ℝ) (n : Fin 512) (k : Fin 256) : ℝ :=
  if h : k.val < 64 then A n ⟨k.val, h⟩ else if h' : k.val < 128 then B n ⟨k.val - 64, by omega⟩ else E n ⟨k.val - 128, by omega⟩

/-- Each feature's largest value over the points, then each feature's mean. -/
def pooled (G : Fin 512 → Fin 256 → ℝ) (k : Fin 512) : EReal :=
  if h : k.val < 256 then Finset.univ.fold max ⊥ (fun n => ((G n ⟨k.val, h⟩ : ℝ) : EReal))
  else (((∑ n, G n ⟨k.val - 256, by omega⟩) / 512 : ℝ) : EReal)

theorem word_mean : Ideal.ofBits .f32 0x3B000000#32 = (((512 : ℝ)⁻¹ : ℝ) : EReal) := by
  simp [Ideal.ofBits, Ideal.ieee, -EReal.coe_mul]; norm_num

theorem feats_apply {a b : FVec Ideal S512x64 .f32} {e : FVec Ideal S512x128 .f32} {A B : Fin 512 → Fin 64 → ℝ} {E : Fin 512 → Fin 128 → ℝ}
    (ha : Real2 a A) (hb : Real2 b B) (he : Real2 e E) :
    Real2 (concatenate S512x256 1 [⟨S512x64, a⟩, ⟨S512x64, b⟩, ⟨S512x128, e⟩] concatenates_S512x64_S512x64_S512x128_S512x256_d1) (feats A B E) := by
  intro n k
  have hj := join_three a b e concatenates_S512x64_S512x64_S512x128_S512x256_d1 n k
  unfold feats
  split
  · next h => exact (hj.1 ⟨k.val, h⟩ rfl).trans (ha _ _)
  · next h =>
    split
    · next h' => exact (hj.2.1 ⟨k.val - 64, by omega⟩ (by show k.val = 64 + (k.val - 64); omega)).trans (hb _ _)
    · next h' => exact (hj.2.2 ⟨k.val - 128, by omega⟩ (by show k.val = 64 + 64 + (k.val - 128); omega)).trans (he _ _)

theorem lift_col {a b : ℕ} (h : (⟨2, ![a, b]⟩ : Shape).Reduces [0] ⟨1, ![b]⟩) (k : Fin b) (n : Fin a) :
    h.lift (ix1 k) n = ix2 n k := by
  funext c
  match c with
  | ⟨0, _⟩ => rfl
  | ⟨1, _⟩ => rfl

theorem max_apply (y : FVec Ideal S512x256 .f32) (G : Fin 512 → Fin 256 → ℝ) (hy : Real2 y G)
    (hφ : FKind.Formats .f32) (hacc : 0xFF800000#32 = FKind.maximumf.neutral .f32 hφ) (k : Fin 256) :
    multiReduction .maximumf [0] S256 y 0xFF800000#32 reduces_S512x256_S256 hφ hacc (ix1 k)
      = Finset.univ.fold max ⊥ (fun n => ((G n k : ℝ) : EReal)) := by
  refine (Ideal.multiReduction_maximumf_single y _ reduces_S512x256_S256 hφ hacc (ix1 k)).trans ?_
  have e' : y ∘ reduces_S512x256_S256.lift (ix1 k) = fun n => ((G n k : ℝ) : EReal) :=
    funext fun n => (congrArg y (lift_col _ k n)).trans (hy n k)
  rw [e']
  show Finset.univ.fold max (Ideal.ofBits .f32 0xFF800000#32) _ = _
  rw [word_bot]
  rfl

theorem mean_apply (y : FVec Ideal S512x256 .f32) (G : Fin 512 → Fin 256 → ℝ) (hy : Real2 y G)
    (hφ : FKind.Formats .f32) (hacc : 0x00000000#32 = FKind.add.neutral .f32 hφ) (k : Fin 256) :
    mulf (multiReduction .add [0] S256 y 0x00000000#32 reduces_S512x256_S256 hφ hacc) (broadcast S256 (Scalar.ofBits .f32 0x3B000000#32)) (ix1 k)
      = (((∑ n, G n k) / 512 : ℝ) : EReal) := by
  show (multiReduction .add [0] S256 y 0x00000000#32 reduces_S512x256_S256 hφ hacc (ix1 k) : EReal) * Ideal.ofBits .f32 0x3B000000#32 = _
  rw [word_mean, div_eq_mul_inv, EReal.coe_mul]
  refine congrArg (· * _) ?_
  refine (Ideal.multiReduction_add_single y _ reduces_S512x256_S256 hφ hacc (ix1 k)).trans ?_
  rw [← sum_coe]
  exact Finset.sum_congr rfl fun n _ => (congrArg y (lift_col _ k n)).trans (hy n k)

theorem pool_apply {a b : FVec Ideal S512x64 .f32} {e : FVec Ideal S512x128 .f32} {A B : Fin 512 → Fin 64 → ℝ} {E : Fin 512 → Fin 128 → ℝ}
    (ha : Real2 a A) (hb : Real2 b B) (he : Real2 e E) (k : Fin 512) :
    poolV a b e (ix3 (0 : Fin 1) (0 : Fin 1) k) = pooled (feats A B E) k := by
  unfold poolV
  refine (shapeCast_apply _ shapeCasts_S512_S1x1x512 (ix3 (0 : Fin 1) (0 : Fin 1) k) (ix1 k) ?_).trans ?_
  · rw [Shape.rowMajor_val_one, Shape.rowMajor_val_three]
    show k.val = (0 * 1 + 0) * 512 + k.val
    omega
  have hy := feats_apply ha hb he
  unfold pooled
  split
  · next h =>
    refine (concatenate_pair_apply_left (t := S512) (s₁ := S256) (s₂ := S256) 0 _ _ concatenates_S256_S256_S512_d0 (ix1 k) rfl (ix1 ⟨k.val, h⟩)
      fun (x : Fin 1) => match x with | ⟨0, _⟩ => rfl).trans ?_
    exact max_apply _ _ hy _ _ _
  · next h =>
    refine (concatenate_pair_apply_right (t := S512) (s₁ := S256) (s₂ := S256) 0 _ _ concatenates_S256_S256_S512_d0 (ix1 k) rfl rfl
      (ix1 ⟨k.val - 256, by omega⟩) (fun (x : Fin 1) => match x with | ⟨0, _⟩ => fun hne => absurd rfl hne)
      (by show k.val - 256 + 256 = k.val; omega)).trans ?_
    exact mean_apply _ _ hy _ _ _

/-! ### The three layers of one cloud -/

section
variable (X : Fin 512 → Fin 3 → ℝ) (Q1 K1 V1 : Fin 6 → Fin 64 → ℝ) (P1 : Fin 3 → Fin 64 → ℝ)
  (Q2 K2 V2 : Fin 128 → Fin 64 → ℝ) (P2 : Fin 3 → Fin 64 → ℝ) (Q3 K3 V3 : Fin 128 → Fin 128 → ℝ) (P3 : Fin 3 → Fin 128 → ℝ)

/-- One layer, its weights' halves stacked. -/
def layer {C R d : ℕ} (h : R = C + C) (X : Fin 512 → Fin C → ℝ) (Q K V : Fin R → Fin d → ℝ) (P : Fin 512 → Fin d → ℝ) (s : ℝ) :
    Fin 512 → Fin d → ℝ := plainLayer X (top h Q) (low h Q) (top h K) (low h K) (top h V) (low h V) P s

/-- The first layer's features. -/
def out1 : Fin 512 → Fin 64 → ℝ := layer (C := 3) rfl X Q1 K1 V1 (rows X P1) 8
/-- The second layer's. -/
def out2 : Fin 512 → Fin 64 → ℝ := layer (C := 64) rfl (out1 X Q1 K1 V1 P1) Q2 K2 V2 (rows X P2) 8
/-- The third layer's. -/
def out3 : Fin 512 → Fin 128 → ℝ := layer (C := 64) rfl (out2 X Q1 K1 V1 P1 Q2 K2 V2 P2) Q3 K3 V3 (rows X P3) (Real.sqrt 128)
/-- The pooled features of the cloud. -/
def result : Fin 512 → EReal :=
  pooled (feats (out1 X Q1 K1 V1 P1) (out2 X Q1 K1 V1 P1 Q2 K2 V2 P2) (out3 X Q1 K1 V1 P1 Q2 K2 V2 P2 Q3 K3 V3 P3))

end

theorem layer_real {C R d d2 d3 d4 : ℕ} (hR : R = C + C) (hc : FitsC C (C + 1)) (h : FitsD d d2 d3 d4) (h2 : d2 = d + d) (h3 : d3 = d + d + d)
    {x : FVec Ideal ⟨2, ![512, C]⟩ .f32} {X : Fin 512 → Fin C → ℝ} (hx : Real2 x X) {w w' : FVec Ideal ⟨2, ![C, d3]⟩ .f32}
    {Q K V : Fin R → Fin d → ℝ} (hw : Heads d d2 w (top hR Q) (top hR K) (top hR V)) (hw' : Heads d d2 w' (step hR Q) (step hR K) (step hR V))
    {p : FVec Ideal ⟨2, ![512, d]⟩ .f32} {P : Fin 512 → Fin d → ℝ} (hp : Real2 p P) {inv : Ideal .f32} {s : ℝ} (hs : inv = ((s⁻¹ : ℝ) : EReal)) :
    Real2 (layerV hc h inv x (matmul (DotDims.plain 512 C d3) none x w (constant ⟨2, ![512, d3]⟩ .f32 0x00000000#32))
      (matmul (DotDims.plain 512 C d3) none x w' (constant ⟨2, ![512, d3]⟩ .f32 0x00000000#32)) p) (layer hR X Q K V P s) := by
  have e := layer_apply hc h h2 h3 hx (dot_heads hx hw) (dot_heads hx hw') hp hs
  rwa [show fusedLayer (nbr X) (rows X (top hR Q)) (rows X (top hR K)) (rows X (top hR V)) (rows X (step hR Q)) (rows X (step hR K))
    (rows X (step hR V)) P s⁻¹ = layer hR X Q K V P s from fused_eq_plain X _ _ _ _ _ _ P s] at e

theorem first_real {x : FVec Ideal S512x8 .f32} {X : Fin 512 → Fin 3 → ℝ} (hx : Real2 x (padCols X)) {w w' : FVec Ideal S8x192 .f32}
    {Q K V : Fin 6 → Fin 64 → ℝ} (hw : Heads 64 128 w (padRows (top (C := 3) rfl Q)) (padRows (top (C := 3) rfl K)) (padRows (top (C := 3) rfl V)))
    (hw' : Heads 64 128 w' (padRows (step (C := 3) rfl Q)) (padRows (step (C := 3) rfl K)) (padRows (step (C := 3) rfl V)))
    {p : FVec Ideal S512x64 .f32} {P : Fin 512 → Fin 64 → ℝ} (hp : Real2 p P) {inv : Ideal .f32} {s : ℝ} (hs : inv = ((s⁻¹ : ℝ) : EReal)) :
    Real2 (layerV chans8 heads64 inv x (matmul (DotDims.plain 512 8 192) none x w (constant S512x192 .f32 0x00000000#32))
      (matmul (DotDims.plain 512 8 192) none x w' (constant S512x192 .f32 0x00000000#32)) p) (layer (C := 3) rfl X Q K V P s) := by
  have e := layer_apply chans8 heads64 rfl rfl hx (dot_heads hx hw) (dot_heads hx hw') hp hs
  rw [nbr_pad] at e
  simp only [rows_pad] at e
  rwa [show fusedLayer (nbr X) (rows X (top (C := 3) rfl Q)) (rows X (top (C := 3) rfl K)) (rows X (top (C := 3) rfl V)) (rows X (step (C := 3) rfl Q))
    (rows X (step (C := 3) rfl K)) (rows X (step (C := 3) rfl V)) P s⁻¹ = layer (C := 3) rfl X Q K V P s from fused_eq_plain X _ _ _ _ _ _ P s] at e

/-- **What a grid point writes.** -/
theorem block_apply {x0 : FVec Ideal S1x512x8 .f32} {x1 x2 : FVec Ideal S8x192 .f32} {x3 : FVec Ideal S8x64 .f32} {x4 x5 : FVec Ideal S64x192 .f32}
    {x6 : FVec Ideal S8x64 .f32} {x7 x8 : FVec Ideal S64x384 .f32} {x9 : FVec Ideal S8x128 .f32}
    {X : Fin 512 → Fin 3 → ℝ} {Q1 K1 V1 : Fin 6 → Fin 64 → ℝ} {P1 : Fin 3 → Fin 64 → ℝ} {Q2 K2 V2 : Fin 128 → Fin 64 → ℝ}
    {P2 : Fin 3 → Fin 64 → ℝ} {Q3 K3 V3 : Fin 128 → Fin 128 → ℝ} {P3 : Fin 3 → Fin 128 → ℝ}
    (h0 : ∀ n c, x0 (ix3 (0 : Fin 1) n c) = ((padCols X n c : ℝ) : EReal))
    (h1 : Heads 64 128 x1 (padRows (top (C := 3) rfl Q1)) (padRows (top (C := 3) rfl K1)) (padRows (top (C := 3) rfl V1)))
    (h2 : Heads 64 128 x2 (padRows (step (C := 3) rfl Q1)) (padRows (step (C := 3) rfl K1)) (padRows (step (C := 3) rfl V1)))
    (h3 : Real2 x3 (padRows P1))
    (h4 : Heads 64 128 x4 (top (C := 64) rfl Q2) (top (C := 64) rfl K2) (top (C := 64) rfl V2))
    (h5 : Heads 64 128 x5 (step (C := 64) rfl Q2) (step (C := 64) rfl K2) (step (C := 64) rfl V2))
    (h6 : Real2 x6 (padRows P2))
    (h7 : Heads 128 256 x7 (top (C := 64) rfl Q3) (top (C := 64) rfl K3) (top (C := 64) rfl V3))
    (h8 : Heads 128 256 x8 (step (C := 64) rfl Q3) (step (C := 64) rfl K3) (step (C := 64) rfl V3))
    (h9 : Real2 x9 (padRows P3)) (k : Fin 512) :
    blockV (F := Ideal) x0 x1 x2 x3 x4 x5 x6 x7 x8 x9 (ix3 (0 : Fin 1) (0 : Fin 1) k) = result X Q1 K1 V1 P1 Q2 K2 V2 P2 Q3 K3 V3 P3 k := by
  have hx : Real2 (pts (F := Ideal) x0) (padCols X) := fun n c => (shapeCast_1ab_ab_apply _ _ n c).trans (h0 n c)
  have hp : ∀ {d : ℕ} {w : FVec Ideal ⟨2, ![8, d]⟩ .f32} {W : Fin 3 → Fin d → ℝ}, Real2 w (padRows W) →
      Real2 (matmul (DotDims.plain 512 8 d) none (pts (F := Ideal) x0) w (constant ⟨2, ![512, d]⟩ .f32 0x00000000#32)) (rows X W) := by
    intro d w W hw
    have e := dot_real hx hw
    rwa [rows_pad] at e
  have e1 : Real2 (first (F := Ideal) x0 x1 x2 x3) (out1 X Q1 K1 V1 P1) := first_real hx h1 h2 (hp h3) word_eighth
  have e2 : Real2 (second (F := Ideal) x0 x1 x2 x3 x4 x5 x6) (out2 X Q1 K1 V1 P1 Q2 K2 V2 P2) :=
    layer_real (C := 64) rfl chans64 heads64 rfl rfl e1 h4 h5 (hp h6) word_eighth
  have e3 : Real2 (third (F := Ideal) x0 x1 x2 x3 x4 x5 x6 x7 x8 x9) (out3 X Q1 K1 V1 P1 Q2 K2 V2 P2 Q3 K3 V3 P3) :=
    layer_real (C := 64) rfl chans64 heads128 rfl rfl e2 h7 h8 (hp h9) rfl
  exact pool_apply e1 e2 e3 k

end Cloud

end
-- ==== Proof.KernelOut.lean ====
module

public import proofs.«01_k».proof.Proof.KernelBlock

@[expose] public section

noncomputable section

namespace Cloud

open Idealize.ShloMosaic Idealize.ShloMosaic.TcCoe Cert.KernelIdeal Cert.KernelIdeal.Gen
variable {F : FTy → Type} [FloatOps F] [Named F]
/-- A cast of a shape to itself changes nothing. -/
theorem recast_self {s : Shape} {α : Type} (v : s.Idx → α) (h : s.ShapeCasts s) : shapeCast s v h = v := by
  funext i
  exact congrArg v (Shape.reshapeEquiv_self h i)

set_option maxRecDepth 100000 in
set_option maxHeartbeats 4000000 in
/-- What one grid point writes is `blockV` of the blocks it reads. -/
theorem out_eq (c : Idealize.ShloMosaic.Dev nD) (i : grid0.Coords) (arg1 : Memref sig .tc .vmem S1x512x8 .f32) (harg1 : arg1.IsWhole) (arg2 : Memref sig .tc .vmem S8x192 .f32) (harg2 : arg2.IsWhole) (arg3 : Memref sig .tc .vmem S8x192 .f32) (harg3 : arg3.IsWhole) (arg4 : Memref sig .tc .vmem S8x64 .f32) (harg4 : arg4.IsWhole) (arg5 : Memref sig .tc .vmem S64x192 .f32) (harg5 : arg5.IsWhole) (arg6 : Memref sig .tc .vmem S64x192 .f32) (harg6 : arg6.IsWhole) (arg7 : Memref sig .tc .vmem S8x64 .f32) (harg7 : arg7.IsWhole) (arg8 : Memref sig .tc .vmem S64x384 .f32) (harg8 : arg8.IsWhole) (arg9 : Memref sig .tc .vmem S64x384 .f32) (harg9 : arg9.IsWhole) (arg10 : Memref sig .tc .vmem S8x128 .f32) (harg10 : arg10.IsWhole) (arg11 : Memref sig .tc .vmem S1x1x512 .f32) (harg11 : arg11.IsWhole) (arg12 : Memref sig .tc .vmem S8x128 .f32) (harg12 : arg12.IsWhole)
    (x0 : Vec F S1x512x8 .f32) (x1 : Vec F S8x192 .f32) (x2 : Vec F S8x192 .f32) (x3 : Vec F S8x64 .f32) (x4 : Vec F S64x192 .f32) (x5 : Vec F S64x192 .f32) (x6 : Vec F S8x64 .f32) (x7 : Vec F S64x384 .f32) (x8 : Vec F S64x384 .f32) (x9 : Vec F S8x128 .f32) :
    out0_A_10 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 = blockV x0 x1 x2 x3 x4 x5 x6 x7 x8 x9 := by
  refine Eq.trans (b := blockV (View.ld (View.read (Elt F) arg1.view (harg1.unread x0)) (Rect.unit ![0, 0, 0] S1x512x8.size inb_S1x512x8_S1x512x8_0_0_0))
      (shapeCast S8x192 (View.ld (View.read (Elt F) arg2.view (harg2.unread x1)) (Rect.unit ![0, 0] S8x192.size inb_S8x192_S8x192_0_0)) shapeCasts_S8x192_S8x192)
      (shapeCast S8x192 (View.ld (View.read (Elt F) arg3.view (harg3.unread x2)) (Rect.unit ![0, 0] S8x192.size inb_S8x192_S8x192_0_0)) shapeCasts_S8x192_S8x192)
      (shapeCast S8x64 (View.ld (View.read (Elt F) arg4.view (harg4.unread x3)) (Rect.unit ![0, 0] S8x64.size inb_S8x64_S8x64_0_0)) shapeCasts_S8x64_S8x64)
      (shapeCast S64x192 (View.ld (View.read (Elt F) arg5.view (harg5.unread x4)) (Rect.unit ![0, 0] S64x192.size inb_S64x192_S64x192_0_0)) shapeCasts_S64x192_S64x192)
      (shapeCast S64x192 (View.ld (View.read (Elt F) arg6.view (harg6.unread x5)) (Rect.unit ![0, 0] S64x192.size inb_S64x192_S64x192_0_0)) shapeCasts_S64x192_S64x192)
      (shapeCast S8x64 (View.ld (View.read (Elt F) arg7.view (harg7.unread x6)) (Rect.unit ![0, 0] S8x64.size inb_S8x64_S8x64_0_0)) shapeCasts_S8x64_S8x64)
      (shapeCast S64x384 (View.ld (View.read (Elt F) arg8.view (harg8.unread x7)) (Rect.unit ![0, 0] S64x384.size inb_S64x384_S64x384_0_0)) shapeCasts_S64x384_S64x384)
      (shapeCast S64x384 (View.ld (View.read (Elt F) arg9.view (harg9.unread x8)) (Rect.unit ![0, 0] S64x384.size inb_S64x384_S64x384_0_0)) shapeCasts_S64x384_S64x384)
      (shapeCast S8x128 (View.ld (View.read (Elt F) arg10.view (harg10.unread x9)) (Rect.unit ![0, 0] S8x128.size inb_S8x128_S8x128_0_0)) shapeCasts_S8x128_S8x128)) ?_ ?_
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9)]
  unfold kernelRun0_A
  dsimp only
  rw [View.canon_unit_zero hz3]
  sl_unfold_words
  simp -proj only [View.readAt_eq_ld]
  simp -proj only [k0_pay1]
  simp -proj only [pool_fold (F := F)]
  simp -proj only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay405, k0_pay406, k0_pay407]
  simp -proj only [dots256, dots512, dots9, dots65, dotsA, dotsB, dotsC, dotsD, dotsE, lane_fold (F := F), scores_fold (F := F), cand_fold (F := F), pick_fold (F := F), rest_fold (F := F), gather_fold (F := F),
    round_fold (F := F), round_fold' (F := F), Nat.reduceAdd, logit_fold (F := F) heads64, logit_fold (F := F) heads128, value_fold (F := F) heads64, value_fold (F := F) heads128,
    table_fold (F := F) heads64, table_fold (F := F) heads128]
  simp -proj only [← max16.eq_1 (F := F), ← sum16.eq_1 (F := F)]
  simp -proj only [← mean16.eq_1 (F := F)]
  simp -proj only [← attendV.eq_1 (F := F)]
  simp -proj only [layer_fold (F := F) chans8 heads64, layer_fold (F := F) chans64 heads64, layer_fold (F := F) chans64 heads128]
  · rfl
  · simp only [harg1.read_unread, harg2.read_unread, harg3.read_unread, harg4.read_unread, harg5.read_unread, harg6.read_unread, harg7.read_unread, harg8.read_unread, harg9.read_unread, harg10.read_unread, View.ld_unit_zero (S := S1x512x8) hz3, View.ld_unit_zero (S := S8x192) hz2, View.ld_unit_zero (S := S8x64) hz2, View.ld_unit_zero (S := S64x192) hz2, View.ld_unit_zero (S := S64x384) hz2, View.ld_unit_zero (S := S8x128) hz2
      ]
    rw [recast_self x1, recast_self x2, recast_self x3, recast_self x4, recast_self x5, recast_self x6, recast_self x7,
      recast_self x8, recast_self x9]
end Cloud

end
-- ==== Proof.KernelValue.lean ====
/-
  The array that the kernel leaves: for each cloud, the pooled features of its three layers.
-/
module

public import proofs.«01_k».proof.Proof.KernelHost
public import proofs.«01_k».proof.Proof.KernelPool
public import proofs.«01_k».proof.Proof.KernelOut

@[expose] public section

noncomputable section

namespace Cloud

open Idealize.ShloMosaic Idealize.ShloMosaic.ValueIdx Idealize.ShloMosaic.TcCoe Idealize.SL.Sem Cert.KernelIdeal Cert.KernelIdeal.Gen

/-! ### Where each window's block sits -/

theorem first_axis : ∀ t : Fin cfg0.N, win0_0.index t (0 : Fin 3) = t.val ∧ win0_0.index t (1 : Fin 3) = 0 ∧ win0_0.index t (2 : Fin 3) = 0
    ∧ win0_10.index t (0 : Fin 3) = t.val ∧ win0_10.index t (1 : Fin 3) = 0 ∧ win0_10.index t (2 : Fin 3) = 0 :=
  (by decide +kernel : ∀ t : Fin grid0.N, _)

theorem whole_axes : ∀ t : Fin cfg0.N, win0_1.index t (0 : Fin 2) = 0 ∧ win0_1.index t (1 : Fin 2) = 0 ∧ win0_2.index t (0 : Fin 2) = 0 ∧ win0_2.index t (1 : Fin 2) = 0 ∧ win0_3.index t (0 : Fin 2) = 0 ∧ win0_3.index t (1 : Fin 2) = 0 ∧ win0_4.index t (0 : Fin 2) = 0 ∧ win0_4.index t (1 : Fin 2) = 0 ∧ win0_5.index t (0 : Fin 2) = 0 ∧ win0_5.index t (1 : Fin 2) = 0 ∧ win0_6.index t (0 : Fin 2) = 0 ∧ win0_6.index t (1 : Fin 2) = 0 ∧ win0_7.index t (0 : Fin 2) = 0 ∧ win0_7.index t (1 : Fin 2) = 0 ∧ win0_8.index t (0 : Fin 2) = 0 ∧ win0_8.index t (1 : Fin 2) = 0 ∧ win0_9.index t (0 : Fin 2) = 0 ∧ win0_9.index t (1 : Fin 2) = 0 :=
  (by decide +kernel : ∀ t : Fin grid0.N, _)

theorem emb0 (t : Fin cfg0.N) (b : Fin 32) (hb : b.val = t.val) (n : Fin 512) (c : Fin 8) :
    ((cfg0.win 0).blk t).view.emb (ix3 (0 : Fin 1) n c) = (ix3 b n c : S32x512x8.Idx) := by
  obtain ⟨e0, e1, e2, _⟩ := first_axis t
  funext a; apply Fin.ext
  match a with
  | ⟨0, _⟩ => show win0_0.index t (0 : Fin 3) * 1 + 1 * 0 = b.val; omega
  | ⟨1, _⟩ => show win0_0.index t (1 : Fin 3) * 512 + 1 * n.val = n.val; omega
  | ⟨2, _⟩ => show win0_0.index t (2 : Fin 3) * 8 + 1 * c.val = c.val; omega

theorem emb10 (t : Fin cfg0.N) (b : Fin 32) (hb : b.val = t.val) (k : Fin 512) :
    ((cfg0.win 10).blk t).view.emb (ix3 (0 : Fin 1) (0 : Fin 1) k) = (ix3 b (0 : Fin 1) k : S32x1x512.Idx) := by
  obtain ⟨_, _, _, e0, e1, e2⟩ := first_axis t
  funext a; apply Fin.ext
  match a with
  | ⟨0, _⟩ => show win0_10.index t (0 : Fin 3) * 1 + 1 * 0 = b.val; omega
  | ⟨1, _⟩ => show win0_10.index t (1 : Fin 3) * 1 + 1 * 0 = 0; omega
  | ⟨2, _⟩ => show win0_10.index t (2 : Fin 3) * 512 + 1 * k.val = k.val; omega

theorem emb1 (t : Fin cfg0.N) (y : S8x192.Idx) : ((cfg0.win 1).blk t).view.emb y = y := by
  obtain ⟨e0, e1, _⟩ := whole_axes t
  funext a; apply Fin.ext
  match a with
  | ⟨0, _⟩ => show win0_1.index t (0 : Fin 2) * 8 + 1 * (y 0).val = (y 0).val; omega
  | ⟨1, _⟩ => show win0_1.index t (1 : Fin 2) * 192 + 1 * (y 1).val = (y 1).val; omega

theorem emb2 (t : Fin cfg0.N) (y : S8x192.Idx) : ((cfg0.win 2).blk t).view.emb y = y := by
  obtain ⟨_, _, e0, e1, _⟩ := whole_axes t
  funext a; apply Fin.ext
  match a with
  | ⟨0, _⟩ => show win0_2.index t (0 : Fin 2) * 8 + 1 * (y 0).val = (y 0).val; omega
  | ⟨1, _⟩ => show win0_2.index t (1 : Fin 2) * 192 + 1 * (y 1).val = (y 1).val; omega

theorem emb3 (t : Fin cfg0.N) (y : S8x64.Idx) : ((cfg0.win 3).blk t).view.emb y = y := by
  obtain ⟨_, _, _, _, e0, e1, _⟩ := whole_axes t
  funext a; apply Fin.ext
  match a with
  | ⟨0, _⟩ => show win0_3.index t (0 : Fin 2) * 8 + 1 * (y 0).val = (y 0).val; omega
  | ⟨1, _⟩ => show win0_3.index t (1 : Fin 2) * 64 + 1 * (y 1).val = (y 1).val; omega

theorem emb4 (t : Fin cfg0.N) (y : S64x192.Idx) : ((cfg0.win 4).blk t).view.emb y = y := by
  obtain ⟨_, _, _, _, _, _, e0, e1, _⟩ := whole_axes t
  funext a; apply Fin.ext
  match a with
  | ⟨0, _⟩ => show win0_4.index t (0 : Fin 2) * 64 + 1 * (y 0).val = (y 0).val; omega
  | ⟨1, _⟩ => show win0_4.index t (1 : Fin 2) * 192 + 1 * (y 1).val = (y 1).val; omega

theorem emb5 (t : Fin cfg0.N) (y : S64x192.Idx) : ((cfg0.win 5).blk t).view.emb y = y := by
  obtain ⟨_, _, _, _, _, _, _, _, e0, e1, _⟩ := whole_axes t
  funext a; apply Fin.ext
  match a with
  | ⟨0, _⟩ => show win0_5.index t (0 : Fin 2) * 64 + 1 * (y 0).val = (y 0).val; omega
  | ⟨1, _⟩ => show win0_5.index t (1 : Fin 2) * 192 + 1 * (y 1).val = (y 1).val; omega

theorem emb6 (t : Fin cfg0.N) (y : S8x64.Idx) : ((cfg0.win 6).blk t).view.emb y = y := by
  obtain ⟨_, _, _, _, _, _, _, _, _, _, e0, e1, _⟩ := whole_axes t
  funext a; apply Fin.ext
  match a with
  | ⟨0, _⟩ => show win0_6.index t (0 : Fin 2) * 8 + 1 * (y 0).val = (y 0).val; omega
  | ⟨1, _⟩ => show win0_6.index t (1 : Fin 2) * 64 + 1 * (y 1).val = (y 1).val; omega

theorem emb7 (t : Fin cfg0.N) (y : S64x384.Idx) : ((cfg0.win 7).blk t).view.emb y = y := by
  obtain ⟨_, _, _, _, _, _, _, _, _, _, _, _, e0, e1, _⟩ := whole_axes t
  funext a; apply Fin.ext
  match a with
  | ⟨0, _⟩ => show win0_7.index t (0 : Fin 2) * 64 + 1 * (y 0).val = (y 0).val; omega
  | ⟨1, _⟩ => show win0_7.index t (1 : Fin 2) * 384 + 1 * (y 1).val = (y 1).val; omega

theorem emb8 (t : Fin cfg0.N) (y : S64x384.Idx) : ((cfg0.win 8).blk t).view.emb y = y := by
  obtain ⟨_, _, _, _, _, _, _, _, _, _, _, _, _, _, e0, e1, _⟩ := whole_axes t
  funext a; apply Fin.ext
  match a with
  | ⟨0, _⟩ => show win0_8.index t (0 : Fin 2) * 64 + 1 * (y 0).val = (y 0).val; omega
  | ⟨1, _⟩ => show win0_8.index t (1 : Fin 2) * 384 + 1 * (y 1).val = (y 1).val; omega

theorem emb9 (t : Fin cfg0.N) (y : S8x128.Idx) : ((cfg0.win 9).blk t).view.emb y = y := by
  obtain ⟨_, _, _, _, _, _, _, _, _, _, _, _, _, _, _, _, e0, e1⟩ := whole_axes t
  funext a; apply Fin.ext
  match a with
  | ⟨0, _⟩ => show win0_9.index t (0 : Fin 2) * 8 + 1 * (y 0).val = (y 0).val; omega
  | ⟨1, _⟩ => show win0_9.index t (1 : Fin 2) * 128 + 1 * (y 1).val = (y 1).val; omega

variable (m : (ℓ : Loc nD τ sig) → Buf (Elt Ideal) ℓ) (c : Dev nD) (t : Fin cfg0.N)

theorem read1 : (iblk m c 1 t : FVec Ideal S8x192 .f32) = V m c main_v17 := funext fun z => by
  show V m c main_v17 (((cfg0.win 1).blk t).view.emb z) = _
  rw [emb1]

theorem read2 : (iblk m c 2 t : FVec Ideal S8x192 .f32) = V m c main_v18 := funext fun z => by
  show V m c main_v18 (((cfg0.win 2).blk t).view.emb z) = _
  rw [emb2]

theorem read3 : (iblk m c 3 t : FVec Ideal S8x64 .f32) = V m c main_v48 := funext fun z => by
  show V m c main_v48 (((cfg0.win 3).blk t).view.emb z) = _
  rw [emb3]

theorem read4 : (iblk m c 4 t : FVec Ideal S64x192 .f32) = V m c main_v22 := funext fun z => by
  show V m c main_v22 (((cfg0.win 4).blk t).view.emb z) = _
  rw [emb4]

theorem read5 : (iblk m c 5 t : FVec Ideal S64x192 .f32) = V m c main_v32 := funext fun z => by
  show V m c main_v32 (((cfg0.win 5).blk t).view.emb z) = _
  rw [emb5]

theorem read6 : (iblk m c 6 t : FVec Ideal S8x64 .f32) = V m c main_v50 := funext fun z => by
  show V m c main_v50 (((cfg0.win 6).blk t).view.emb z) = _
  rw [emb6]

theorem read7 : (iblk m c 7 t : FVec Ideal S64x384 .f32) = V m c main_v36 := funext fun z => by
  show V m c main_v36 (((cfg0.win 7).blk t).view.emb z) = _
  rw [emb7]

theorem read8 : (iblk m c 8 t : FVec Ideal S64x384 .f32) = V m c main_v46 := funext fun z => by
  show V m c main_v46 (((cfg0.win 8).blk t).view.emb z) = _
  rw [emb8]

theorem read9 : (iblk m c 9 t : FVec Ideal S8x128 .f32) = V m c main_v52 := funext fun z => by
  show V m c main_v52 (((cfg0.win 9).blk t).view.emb z) = _
  rw [emb9]

theorem coords_apply {y : FVec Ideal S32x512x3 .f32} {X : Fin 512 → Fin 3 → ℝ} (b : Fin 32) (hy : ∀ n c, y (ix3 b n c) = ((X n c : ℝ) : EReal))
    {z : FVec Ideal S32x512x5 .f32} (hz : ∀ i, z i = ((0 : ℝ) : EReal)) (h) (n : Fin 512) (k : Fin 8) :
    concatenate S32x512x8 2 [⟨S32x512x3, y⟩, ⟨S32x512x5, z⟩] h (ix3 b n k) = ((padCols X n k : ℝ) : EReal) := by
  unfold padCols
  split
  · next hk =>
    exact (concatenate_pair_apply_left (t := S32x512x8) (s₁ := S32x512x3) (s₂ := S32x512x5) 2 y z h (ix3 b n k) rfl
      (ix3 b n ⟨k.val, hk⟩) fun (x : Fin 3) => match x with
        | ⟨0, _⟩ => rfl
        | ⟨1, _⟩ => rfl
        | ⟨2, _⟩ => rfl).trans (hy _ _)
  · next hk =>
    have h8 := k.isLt
    exact (concatenate_pair_apply_right (t := S32x512x8) (s₁ := S32x512x3) (s₂ := S32x512x5) 2 y z h (ix3 b n k) rfl rfl
      (ix3 b n ⟨k.val - 3, by omega⟩) (fun (x : Fin 3) => match x with
        | ⟨0, _⟩ => fun _ => rfl
        | ⟨1, _⟩ => fun _ => rfl
        | ⟨2, _⟩ => fun hne => absurd rfl hne) (by show k.val - 3 + 3 = k.val; omega)).trans (hz _)

/-- The thirteen arguments' entries are real numbers: these. -/
structure Entries (a0 : FVec Ideal S32x512x3 .f32) (a1 a2 a3 : FVec Ideal S6x64 .f32) (a4 : FVec Ideal S3x64 .f32)
    (a5 a6 a7 : FVec Ideal S128x64 .f32) (a8 : FVec Ideal S3x64 .f32) (a9 a10 a11 : FVec Ideal S128x128 .f32)
    (a12 : FVec Ideal S3x128 .f32)
    (X : Fin 32 → Fin 512 → Fin 3 → ℝ) (Q1 K1 V1 : Fin 6 → Fin 64 → ℝ) (P1 : Fin 3 → Fin 64 → ℝ)
    (Q2 K2 V2 : Fin 128 → Fin 64 → ℝ) (P2 : Fin 3 → Fin 64 → ℝ) (Q3 K3 V3 : Fin 128 → Fin 128 → ℝ) (P3 : Fin 3 → Fin 128 → ℝ) : Prop where
  x : ∀ b n k, a0 (ix3 b n k) = ((X b n k : ℝ) : EReal)
  q1 : Real2 a1 Q1
  k1 : Real2 a2 K1
  v1 : Real2 a3 V1
  p1 : Real2 a4 P1
  q2 : Real2 a5 Q2
  k2 : Real2 a6 K2
  v2 : Real2 a7 V2
  p2 : Real2 a8 P2
  q3 : Real2 a9 Q3
  k3 : Real2 a10 K3
  v3 : Real2 a11 V3
  p3 : Real2 a12 P3

variable {X : Fin 32 → Fin 512 → Fin 3 → ℝ} {Q1 K1 V1 : Fin 6 → Fin 64 → ℝ} {P1 : Fin 3 → Fin 64 → ℝ}
  {Q2 K2 V2 : Fin 128 → Fin 64 → ℝ} {P2 : Fin 3 → Fin 64 → ℝ} {Q3 K3 V3 : Fin 128 → Fin 128 → ℝ} {P3 : Fin 3 → Fin 128 → ℝ}

/-- **What the kernel leaves.** -/
theorem kernel_apply (H : Entries (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) X Q1 K1 V1 P1 Q2 K2 V2 P2 Q3 K3 V3 P3) (b : Fin 32) (k : Fin 512) :
    (dats m 0 c).arrAt 10 cfg0.N (ix3 b (0 : Fin 1) k : S32x1x512.Idx) = result (X b) Q1 K1 V1 P1 Q2 K2 V2 P2 Q3 K3 V3 P3 k := by
  let t : Fin cfg0.N := ⟨b.val, b.isLt⟩
  have e := congrFun (Cert.KernelIdeal.Value.blocks10 m c t (flush0_10 t)) (ix3 (0 : Fin 1) (0 : Fin 1) k)
  rw [Cert.KernelIdeal.Value.flushed10_A, out_eq] at e
  have e' : (dats m 0 c).arrAt 10 cfg0.N (((cfg0.win 10).blk t).view.emb (ix3 (0 : Fin 1) (0 : Fin 1) k))
      = blockV (F := Ideal) (iblk m c 0 t) (iblk m c 1 t) (iblk m c 2 t) (iblk m c 3 t) (iblk m c 4 t) (iblk m c 5 t) (iblk m c 6 t)
        (iblk m c 7 t) (iblk m c 8 t) (iblk m c 9 t) (ix3 (0 : Fin 1) (0 : Fin 1) k) := e
  rw [emb10 t b rfl k] at e'
  refine e'.trans (block_apply (fun n k => ?_) ?_ ?_ ?_ ?_ ?_ ?_ ?_ ?_ ?_ k)
  · show V m c main_v1 (((cfg0.win 0).blk t).view.emb (ix3 (0 : Fin 1) n k)) = _
    rw [emb0 t b rfl n k]
    exact (congrFun (V_v1 m c) _).trans (coords_apply b (H.x b) (fun i => zeros_apply _ i) _ n k)
  · rw [read1, V_v17]
    exact heads_pad (heads_join rfl (cut_top rfl H.q1 _) (cut_top rfl H.k1 _) (cut_top rfl H.v1 _) _) (fun i => zeros_apply _ i) _
  · rw [read2, V_v18]
    exact heads_pad (heads_join rfl (cut_step rfl H.q1 _ _) (cut_step rfl H.k1 _ _) (cut_step rfl H.v1 _ _) _) (fun i => zeros_apply _ i) _
  · rw [read3, V_v48]
    exact real_pad H.p1 (fun i => zeros_apply _ i) _
  · rw [read4, V_v22]
    exact heads_join rfl (cut_top rfl H.q2 _) (cut_top rfl H.k2 _) (cut_top rfl H.v2 _) _
  · rw [read5, V_v32]
    exact heads_join rfl (cut_step rfl H.q2 _ _) (cut_step rfl H.k2 _ _) (cut_step rfl H.v2 _ _) _
  · rw [read6, V_v50]
    exact real_pad H.p2 (fun i => zeros_apply _ i) _
  · rw [read7, V_v36]
    exact heads_join rfl (cut_top rfl H.q3 _) (cut_top rfl H.k3 _) (cut_top rfl H.v3 _) _
  · rw [read8, V_v46]
    exact heads_join rfl (cut_step rfl H.q3 _ _) (cut_step rfl H.k3 _ _) (cut_step rfl H.v3 _ _) _
  · rw [read9, V_v52]
    exact real_pad H.p3 (fun i => zeros_apply _ i) _

end Cloud

end
-- ==== Proof.RefSteps.lean ====
/-
  Steps of the reference over real numbers: the sorted neighbours, the rows taken at them, the products of their features, the softmax.
-/
module

public import proofs.«01_k».proof.Proof.KernelPool
public import Idealize.ShloMosaic.Lib.KernelVsHost
public import Idealize.ShloMosaic.Lib.ReduceAll

@[expose] public section

noncomputable section

namespace Cloud

open Idealize.ShloMosaic Idealize.ShloMosaic.ValueIdx

/-- A rank-3 array whose elements are the real numbers `f`. -/
def C3 (a b c : ℕ) (y : FVec Ideal ⟨3, ![a, b, c]⟩ .f32) (f : Fin a → Fin b → Fin c → ℝ) : Prop :=
  ∀ i, y i = ((f (i 0) (i 1) (i 2) : ℝ) : EReal)
/-- A rank-4 array whose elements are the real numbers `f`. -/
def C4 (a b c d : ℕ) (y : FVec Ideal ⟨4, ![a, b, c, d]⟩ .f32) (f : Fin a → Fin b → Fin c → Fin d → ℝ) : Prop :=
  ∀ i, y i = ((f (i 0) (i 1) (i 2) (i 3) : ℝ) : EReal)

/-! ### The neighbours -/

/-- The row of `i` at position `k`. -/
abbrev atLast (i : (⟨3, ![32, 512, 512]⟩ : Shape).Idx) (k : Fin 512) : (⟨3, ![32, 512, 512]⟩ : Shape).Idx :=
  Shape.Idx.along (s := ⟨3, ![32, 512, 512]⟩) i (⟨2, Nat.lt_succ_self 2⟩ : Fin 3) k

theorem sort_last {α β : Type} (cmp : α × β → α × β → BitVec 1) (x : (⟨3, ![32, 512, 512]⟩ : Shape).Idx → α)
    (y : (⟨3, ![32, 512, 512]⟩ : Shape).Idx → β) (j : (⟨3, ![32, 512, 512]⟩ : Shape).Idx) :
    (Host.sort2 ⟨3, ![32, 512, 512]⟩ 2 cmp x y).2 j
      = y (atLast j (sortedFrom (fun k k' : Fin 512 => cmp (x (atLast j k), y (atLast j k)) (x (atLast j k'), y (atLast j k')) == 1#1) (j 2))) := by
  unfold Host.sort2
  rw [dif_pos (show 2 < (⟨3, ![32, 512, 512]⟩ : Shape).rank from Nat.lt_succ_self 2)]
  rfl

theorem sort_index {α : Type} (gt : α → α → BitVec 1) (x : (⟨3, ![32, 512, 512]⟩ : Shape).Idx → α) (j : (⟨3, ![32, 512, 512]⟩ : Shape).Idx) :
    (Host.sort2 ⟨3, ![32, 512, 512]⟩ 2 (fun l r => gt l.1 r.1) x (iotaInDim ⟨3, ![32, 512, 512]⟩ 32 (⟨2, Nat.lt_succ_self 2⟩ : Fin 3))).2 j
      = BitVec.ofNat 32 (sortedFrom (fun k k' : Fin 512 => gt (x (atLast j k)) (x (atLast j k')) == 1#1) (j 2)).val := by
  rw [sort_last]
  generalize sortedFrom _ (j 2) = q
  unfold iotaInDim
  exact congrArg (fun q : Fin 512 => BitVec.ofNat 32 q.val) (Function.update_self _ _ _)

theorem topk_index {α : Type} (gt : α → α → BitVec 1) (x : (⟨3, ![32, 512, 512]⟩ : Shape).Idx → α)
    (h : (⟨3, ![32, 512, 512]⟩ : Shape).Slices (fun _ => 0) ⟨3, ![32, 512, 16]⟩) (i : (⟨3, ![32, 512, 16]⟩ : Shape).Idx)
    (j : (⟨3, ![32, 512, 512]⟩ : Shape).Idx) (h0 : (j 0).val = (i 0).val) (h1 : (j 1).val = (i 1).val) (h2 : (j 2).val = (i 2).val) :
    (Host.topK ⟨3, ![32, 512, 16]⟩ 2 gt x h).2 i
      = BitVec.ofNat 32 (sortedFrom (fun k k' : Fin 512 => gt (x (atLast j k)) (x (atLast j k')) == 1#1) (j 2)).val :=
  (extractStridedSlice_apply (fun _ => 0) (Host.sort2 ⟨3, ![32, 512, 512]⟩ 2 (fun l r => gt l.1 r.1) x
      (iotaInDim ⟨3, ![32, 512, 512]⟩ 32 (⟨2, Nat.lt_succ_self 2⟩ : Fin 3))).2 h i j fun (a : Fin 3) => match a with
      | ⟨0, _⟩ => h0.trans (Nat.zero_add _).symm
      | ⟨1, _⟩ => h1.trans (Nat.zero_add _).symm
      | ⟨2, _⟩ => h2.trans (Nat.zero_add _).symm).trans (sort_index gt x j)

theorem near_order (a b : ℝ) : (FloatOps.cmpfTotal (F := Ideal) (φ := .f32) .gt ((a : ℝ) : EReal) ((b : ℝ) : EReal) == 1#1)
    = decide (((b : ℝ) : EReal) < ((a : ℝ) : EReal)) := by
  rw [Ideal.cmpfTotal_def]
  by_cases hlt : ((b : ℝ) : EReal) < ((a : ℝ) : EReal)
  · simp [Ideal.cmp, CmpDirection.ordered, hlt]
  · simp [Ideal.cmp, CmpDirection.ordered, hlt]

theorem topk_near {C : ℕ} {y : FVec Ideal ⟨3, ![32, 512, 512]⟩ .f32} {X : Fin 32 → Fin 512 → Fin C → ℝ}
    (hy : C3 32 512 512 y fun b n m => near (X b) n m) (h : (⟨3, ![32, 512, 512]⟩ : Shape).Slices (fun _ => 0) ⟨3, ![32, 512, 16]⟩)
    (i : (⟨3, ![32, 512, 16]⟩ : Shape).Idx) :
    (Host.topK ⟨3, ![32, 512, 16]⟩ 2 (FloatOps.cmpfTotal .gt) y h).2 i = BitVec.ofNat 32 (nbr (X (i 0)) (i 1) (i 2)).val := by
  have hr : ∀ r : Fin 16, r.val < 512 := fun r => by omega
  refine (topk_index _ y h i (ix3 (i 0) (i 1) (⟨(i 2).val, hr (i 2)⟩ : Fin 512)) rfl rfl rfl).trans ?_
  have hk : ∀ k : Fin 512, y (atLast (ix3 (i 0) (i 1) (⟨(i 2).val, hr (i 2)⟩ : Fin 512)) k) = ((near (X (i 0)) (i 1) k : ℝ) : EReal) := fun k => hy _
  simp only [hk, near_order]
  exact congrArg (fun q : Fin 512 => BitVec.ofNat 32 q.val) (sortedFrom_near (X (i 0)) (i 1) (i 2))

/-! ### Rows taken at the neighbours -/

section
variable (C : ℕ) (wf : GatherDims.WF ⟨3, ![32, 512, C]⟩ ⟨3, ![32, 8192, 1]⟩ ⟨3, ![32, 8192, C]⟩ [2] [1] [0] [1] [0] 2 ![1, 1, C])

/-- Of each cloud, a row per start index. -/
abbrev rowDims : GatherDims ⟨3, ![32, 512, C]⟩ ⟨3, ![32, 8192, 1]⟩ ⟨3, ![32, 8192, C]⟩ where
  offsetDims := [2]
  collapsedSliceDims := [1]
  operandBatchingDims := [0]
  startIndicesBatchingDims := [0]
  startIndexMap := [1]
  indexVectorDim := 2
  sliceSizes := ![1, 1, C]
  wf := wf

theorem gather_row (x : FVec Ideal ⟨3, ![32, 512, C]⟩ .f32) (idx : IVec ⟨3, ![32, 8192, 1]⟩ 32)
    (y : (⟨3, ![32, 8192, C]⟩ : Shape).Idx) (q : Fin 512)
    (hq : min (idx (ix3 (y 0) (y 1) (0 : Fin 1))).toInt.toNat 511 = q.val) :
    Host.gather (rowDims C wf) x idx y = x (ix3 (y 0) q (y 2)) := by
  unfold Host.gather
  refine congrArg x (funext fun (a : Fin 3) => Fin.ext ?_)
  show (rowDims C wf).start y idx a + (rowDims C wf).batchCoord y a + (rowDims C wf).offCoord y a = _
  have h3 : a = 0 ∨ a = 1 ∨ a = 2 := by
    match a with
    | ⟨0, _⟩ => exact .inl rfl
    | ⟨1, _⟩ => exact .inr (.inl rfl)
    | ⟨2, _⟩ => exact .inr (.inr rfl)
  rcases h3 with rfl | rfl | rfl
  · have hm : (0 : Fin 3) ∈ (rowDims C wf).operandBatchingDims := List.mem_singleton.mpr rfl
    have e1 := GatherDims.start_batching (rowDims C wf) y idx 0 hm
    have e2 := GatherDims.offCoord_eq_zero (rowDims C wf) y 0 fun h => ((GatherDims.mem_sKept _ _).mp h).2 hm
    have e3 : (rowDims C wf).batchCoord y 0 = (y 0).val := by
      unfold GatherDims.batchCoord
      rw [dif_pos hm]
      rfl
    exact (congrArg₂ (· + ·) (congrArg₂ (· + ·) e1 e3) e2).trans (Nat.zero_add _)
  · have hm : (1 : Fin 3) ∈ (rowDims C wf).startIndexMap := List.mem_singleton.mpr rfl
    have e1 : (rowDims C wf).start y idx 1 = q.val := by
      unfold GatherDims.start
      rw [dif_pos hm]
      have hsi : (rowDims C wf).siIdx y ⟨List.idxOf (1 : Fin 3) (rowDims C wf).startIndexMap, List.idxOf_lt_length_iff.2 hm⟩
          = ix3 (y 0) (y 1) (0 : Fin 1) := by
        funext b
        refine Fin.ext ?_
        match b with
        | ⟨0, _⟩ => rfl
        | ⟨1, _⟩ => rfl
        | ⟨2, _⟩ => rfl
      rw [hsi]
      exact hq
    have e2 := GatherDims.offCoord_eq_zero (rowDims C wf) y 1 fun h => ((GatherDims.mem_sKept _ _).mp h).1 (List.mem_singleton.mpr rfl)
    have e3 := GatherDims.batchCoord_eq_zero (rowDims C wf) y 1 fun h => by simp at h
    exact congrArg₂ (· + ·) (congrArg₂ (· + ·) e1 e3) e2
  · have e1 : (rowDims C wf).start y idx 2 = 0 := by
      unfold GatherDims.start
      rw [dif_neg fun h => by simp at h]
    have e3 := GatherDims.batchCoord_eq_zero (rowDims C wf) y 2 fun h => by simp at h
    have e2 : (rowDims C wf).offCoord y 2 = (y 2).val := by
      unfold GatherDims.offCoord
      rw [dif_pos ((GatherDims.mem_sKept _ _).mpr ⟨fun h => by simp at h, fun h => by simp at h⟩)]
      rfl
    exact (congrArg₂ (· + ·) (congrArg₂ (· + ·) e1 e3) e2).trans (Nat.zero_add _)

end

theorem word_in : ∀ k : Fin 512, IntOp.cmpi .slt (BitVec.ofNat 32 k.val) 0#32 = 0#1 ∧ IntOp.cmpi .sge (BitVec.ofNat 32 k.val) 0#32 = 1#1
    ∧ IntOp.cmpi .sle (BitVec.ofNat 32 k.val) 511#32 = 1#1 ∧ min (BitVec.ofNat 32 k.val).toInt.toNat 511 = k.val := by
  decide +kernel

theorem select_one {α : Type} (a b : α) : Scalar.select 1#1 a b = a := rfl
theorem select_zero {α : Type} (a b : α) : Scalar.select 0#1 a b = b := rfl

/-! ### A neighbour's features -/

section
variable {C R d : ℕ}

/-- Neighbour minus centre, then centre. -/
def pairUp (h : R = C + C) (X : Fin 512 → Fin C → ℝ) (n : Fin 512) (r : Fin 16) (k : Fin R) : ℝ :=
  if hk : k.val < C then X (nbr X n r) ⟨k.val, hk⟩ - X n ⟨k.val, hk⟩ else X n ⟨k.val - C, by omega⟩

theorem pairUp_dot (h : R = C + C) (X : Fin 512 → Fin C → ℝ) (W : Fin R → Fin d → ℝ) (n : Fin 512) (r : Fin 16) (j : Fin d) :
    ∑ k, W k j * pairUp h X n r k = edge X (top h W) (low h W) n r j := by
  subst h
  rw [Fin.sum_univ_add]
  unfold edge
  refine congrArg₂ (· + ·) (Finset.sum_congr rfl fun c _ => ?_) (Finset.sum_congr rfl fun c _ => ?_)
  · unfold pairUp
    rw [dif_pos (show (Fin.castAdd C c).val < C from c.isLt)]
    exact mul_comm _ _
  · unfold pairUp
    rw [dif_neg (show ¬ (Fin.natAdd C c).val < C from by show ¬ C + c.val < C; omega)]
    have e : (⟨(Fin.natAdd C c).val - C, by show C + c.val - C < C; omega⟩ : Fin C) = c := Fin.ext (by show C + c.val - C = c.val; omega)
    rw [e]
    exact mul_comm _ _

theorem pairUp_apply (h : R = C + C) {X : Fin 32 → Fin 512 → Fin C → ℝ} {u v : FVec Ideal ⟨4, ![32, 512, 16, C]⟩ .f32}
    (hu : C4 32 512 16 C u fun b n r c => X b (nbr (X b) n r) c - X b n c) (hv : C4 32 512 16 C v fun b n _ c => X b n c)
    (hc : Shape.Concatenates [⟨4, ![32, 512, 16, C]⟩, ⟨4, ![32, 512, 16, C]⟩] ⟨4, ![32, 512, 16, R]⟩ 3) :
    C4 32 512 16 R (concatenate ⟨4, ![32, 512, 16, R]⟩ 3 [⟨⟨4, ![32, 512, 16, C]⟩, u⟩, ⟨⟨4, ![32, 512, 16, C]⟩, v⟩] hc)
      fun b n r k => pairUp h (X b) n r k := by
  intro i
  by_cases hk : (i 3).val < C
  · have e : pairUp h (X (i 0)) (i 1) (i 2) (i 3) = X (i 0) (nbr (X (i 0)) (i 1) (i 2)) ⟨(i 3).val, hk⟩ - X (i 0) (i 1) ⟨(i 3).val, hk⟩ := dif_pos hk
    show _ = ((pairUp h (X (i 0)) (i 1) (i 2) (i 3) : ℝ) : EReal)
    rw [e]
    refine (concatenate_pair_apply_left (t := ⟨4, ![32, 512, 16, R]⟩) (s₁ := ⟨4, ![32, 512, 16, C]⟩) (s₂ := ⟨4, ![32, 512, 16, C]⟩) 3 u v hc i rfl
      (fun (x : Fin 4) => match x with
        | ⟨0, _⟩ => i 0
        | ⟨1, _⟩ => i 1
        | ⟨2, _⟩ => i 2
        | ⟨3, _⟩ => (⟨(i 3).val, hk⟩ : Fin C)) fun (x : Fin 4) => match x with
        | ⟨0, _⟩ => rfl
        | ⟨1, _⟩ => rfl
        | ⟨2, _⟩ => rfl
        | ⟨3, _⟩ => rfl).trans (hu _)
  · have h3 : (i 3).val < R := (i 3).isLt
    have e : pairUp h (X (i 0)) (i 1) (i 2) (i 3) = X (i 0) (i 1) ⟨(i 3).val - C, by omega⟩ := dif_neg hk
    show _ = ((pairUp h (X (i 0)) (i 1) (i 2) (i 3) : ℝ) : EReal)
    rw [e]
    refine (concatenate_pair_apply_right (t := ⟨4, ![32, 512, 16, R]⟩) (s₁ := ⟨4, ![32, 512, 16, C]⟩) (s₂ := ⟨4, ![32, 512, 16, C]⟩) 3 u v hc i rfl rfl
      (fun (x : Fin 4) => match x with
        | ⟨0, _⟩ => i 0
        | ⟨1, _⟩ => i 1
        | ⟨2, _⟩ => i 2
        | ⟨3, _⟩ => (⟨(i 3).val - C, by omega⟩ : Fin C)) (fun (x : Fin 4) => match x with
        | ⟨0, _⟩ => fun _ => rfl
        | ⟨1, _⟩ => fun _ => rfl
        | ⟨2, _⟩ => fun _ => rfl
        | ⟨3, _⟩ => fun hne => absurd rfl hne) (by show (i 3).val - C + C = (i 3).val; omega)).trans (hv _)

end

/-! ### Sums, largest values, softmax -/

theorem dot_coe {n : ℕ} (f g : Fin n → EReal) (F G : Fin n → ℝ) (hf : ∀ k, f k = ((F k : ℝ) : EReal)) (hg : ∀ k, g k = ((G k : ℝ) : EReal)) :
    ∑ k, f k * g k = ((∑ k, F k * G k : ℝ) : EReal) := by
  rw [← sum_coe]
  exact Finset.sum_congr rfl fun k _ => by rw [hf, hg, EReal.coe_mul]

theorem zero_sum {n : ℕ} (z : EReal) (hz : z = ((0 : ℝ) : EReal)) (f : Fin n → EReal) (F : Fin n → ℝ) (hf : ∀ k, f k = ((F k : ℝ) : EReal)) :
    z + ∑ k, f k = ((∑ k, F k : ℝ) : EReal) := by
  rw [hz, ← sum_coe]
  exact (zero_add _).trans (Finset.sum_congr rfl fun k _ => hf k)

theorem fold_real {n : ℕ} (f : Fin (n + 1) → ℝ) : ∃ M : ℝ, Finset.univ.fold max ⊥ (fun k => ((f k : ℝ) : EReal)) = M := by
  obtain ⟨p, -, hp⟩ := Finset.exists_max_image (Finset.univ : Finset (Fin (n + 1))) f Finset.univ_nonempty
  exact ⟨f p, fold_max_eq (fun k => ((f k : ℝ) : EReal)) p fun k => EReal.coe_le_coe_iff.mpr (hp k (Finset.mem_univ k))⟩

theorem lift_last {a b c d : ℕ} (h : (⟨4, ![a, b, c, d]⟩ : Shape).Reduces [3] ⟨3, ![a, b, c]⟩) (i : (⟨3, ![a, b, c]⟩ : Shape).Idx) (k : Fin d) (x : Fin 4) :
    (h.lift i k) x = match x with | ⟨0, _⟩ => i 0 | ⟨1, _⟩ => i 1 | ⟨2, _⟩ => i 2 | ⟨3, _⟩ => k := by
  match x with
  | ⟨0, _⟩ => rfl
  | ⟨1, _⟩ => rfl
  | ⟨2, _⟩ => rfl
  | ⟨3, _⟩ => rfl

theorem max_last {a b c : ℕ} {y : FVec Ideal ⟨4, ![a, b, c, 16]⟩ .f32} {L : Fin a → Fin b → Fin c → Fin 16 → ℝ} (hy : C4 a b c 16 y L)
    (h : (⟨4, ![a, b, c, 16]⟩ : Shape).ReducesTo [3] ⟨3, ![a, b, c]⟩) {u : Shape} (hu : 0 < u.numel)
    (h' : (⟨4, ![a, b, c, 16]⟩ : Shape).Reduces [3] ⟨3, ![a, b, c]⟩) (hφ : FKind.Formats .f32)
    (hacc : 0xFF800000#32 = FKind.maximumf.neutral .f32 hφ) (i : (⟨3, ![a, b, c]⟩ : Shape).Idx) :
    ∃ M : ℝ, Host.reduce (FloatOps.maximumf (F := Ideal) (φ := .f32)) y (constant (F := Ideal) u .f32 0xFF800000#32) h hu i = ((M : ℝ) : EReal) := by
  obtain ⟨M, hM⟩ := fold_real (n := 15) fun r => L (i 0) (i 1) (i 2) r
  refine ⟨M, ?_⟩
  rw [hostReduce_maximumf_eq_multiReduction y _ h hu h' hφ hacc]
  refine (Ideal.multiReduction_maximumf_single y _ h' hφ hacc i).trans ?_
  have e' : y ∘ h'.lift i = fun r => ((L (i 0) (i 1) (i 2) r : ℝ) : EReal) := funext fun r => hy _
  rw [e']
  show Finset.univ.fold max (Ideal.ofBits .f32 0xFF800000#32) _ = _
  rw [word_bot]
  exact hM

/-- The softmax of sixteen logits, their largest taken off first, times values. -/
theorem attend (L V : Fin 16 → ℝ) (M : ℝ) :
    ∑ r, Real.exp (L r - M) / (∑ r', Real.exp (L r' - M)) * V r = wmean L V := by
  rw [wmean_weights (fun r => L r - M) V]
  exact wmean_shift L V (-M)

/-! ### Indices -/

theorem idx3_ext {a b c : ℕ} {i j : (⟨3, ![a, b, c]⟩ : Shape).Idx} (h0 : i 0 = j 0) (h1 : i 1 = j 1) (h2 : i 2 = j 2) : i = j := by
  funext x
  match x with
  | ⟨0, _⟩ => exact h0
  | ⟨1, _⟩ => exact h1
  | ⟨2, _⟩ => exact h2

theorem Real2.at {a b : ℕ} {f : FVec Ideal ⟨2, ![a, b]⟩ .f32} {g : Fin a → Fin b → ℝ} (h : Real2 f g) (i : (⟨2, ![a, b]⟩ : Shape).Idx) :
    f i = ((g (i 0) (i 1) : ℝ) : EReal) := by
  have e : i = ix2 (i 0) (i 1) := by
    funext x
    match x with
    | ⟨0, _⟩ => rfl
    | ⟨1, _⟩ => rfl
  rw [e]
  exact h _ _

/-- The point of a flat row. -/
def hi (p : Fin 8192) : Fin 512 := ⟨p.val / 16, by omega⟩
/-- Its neighbour's number. -/
def lo (p : Fin 8192) : Fin 16 := ⟨p.val % 16, by omega⟩

theorem flat_index {α : Type} (f : Fin 32 → Fin 512 → Fin 16 → α) (b : Fin 32) (p : Fin 8192) (b' : Fin 32) (n : Fin 512) (r : Fin 16)
    (hb : b'.val = (b.val * 8192 + p.val) / 8192) (hn : n.val = (b.val * 8192 + p.val) / 16 % 512) (hr : r.val = (b.val * 8192 + p.val) % 16) :
    f b' n r = f b (hi p) (lo p) := by
  obtain rfl : b' = b := Fin.ext (by omega)
  obtain rfl : n = hi p := Fin.ext (by show n.val = p.val / 16; omega)
  obtain rfl : r = lo p := Fin.ext (by show r.val = p.val % 16; omega)
  rfl

theorem row_index {α : Type} {C : ℕ} (f : Fin 32 → Fin 512 → Fin 16 → Fin C → α) (b : Fin 32) (n : Fin 512) (r : Fin 16) (c : Fin C)
    (b' : Fin 32) (p : Fin 8192) (c' : Fin C) (hb : b'.val = b.val) (hp : p.val = n.val * 16 + r.val) (hc : c'.val = c.val) :
    f b' (hi p) (lo p) c' = f b n r c := by
  obtain rfl : b' = b := Fin.ext hb
  obtain rfl : c' = c := Fin.ext hc
  have h1 : hi p = n := Fin.ext (by show p.val / 16 = n.val; omega)
  have h2 : lo p = r := Fin.ext (by show p.val % 16 = r.val; omega)
  rw [h1, h2]

/-! ### Scalars -/

theorem take_word (k : Fin 512) (a : BitVec 32) :
    Scalar.select (IntOp.cmpi .slt (BitVec.ofNat 32 k.val) 0#32) a (BitVec.ofNat 32 k.val) = BitVec.ofNat 32 k.val := by
  rw [(word_in k).1]
  rfl

theorem word_minus_two : Ideal.ofBits .f32 0xC0000000#32 = ((-2 : ℝ) : EReal) := by
  simp [Ideal.ofBits, Ideal.ieee, -EReal.coe_mul]; norm_num

theorem near_word (s p t : ℝ) : FloatOps.subf (F := Ideal) (φ := .f32) (FloatOps.subf (FloatOps.hostNegf ((s : ℝ) : EReal))
    (FloatOps.mulf (FloatOps.ofBits .f32 0xC0000000#32) ((p : ℝ) : EReal))) ((t : ℝ) : EReal) = ((-s - -2 * p - t : ℝ) : EReal) := by
  show (-((s : ℝ) : EReal) - Ideal.ofBits .f32 0xC0000000#32 * ((p : ℝ) : EReal)) - ((t : ℝ) : EReal) = _
  rw [word_minus_two, ← EReal.coe_mul, ← EReal.coe_neg, ← EReal.coe_sub, ← EReal.coe_sub]

theorem word_64 : Ideal.ofBits .f32 0x42800000#32 = ((64 : ℝ) : EReal) := by
  simp [Ideal.ofBits, Ideal.ieee, -EReal.coe_mul]; norm_num
theorem word_128 : Ideal.ofBits .f32 0x43000000#32 = ((128 : ℝ) : EReal) := by
  simp [Ideal.ofBits, Ideal.ieee, -EReal.coe_mul]; norm_num

theorem root_64 : Real.sqrt 64 = 8 := by
  rw [show (64 : ℝ) = 8 ^ 2 by norm_num]
  exact Real.sqrt_sq (by norm_num)

theorem root_word (b : BitVec 32) (a : ℝ) (hb : Ideal.ofBits .f32 b = ((a : ℝ) : EReal)) (ha : 0 ≤ a) :
    FloatOps.hostUnary (F := Ideal) (φ := .f32) .sqrt (FloatOps.ofBits .f32 b) = ((Real.sqrt a : ℝ) : EReal) := by
  show Ideal.sqrt (Ideal.ofBits .f32 b) = _
  rw [hb]
  exact if_neg (not_lt.mpr ha)

theorem logit_word (q k p s : ℝ) (hs : s ≠ 0) : FloatOps.hostDivf (F := Ideal) (φ := .f32) (FloatOps.mulf ((q : ℝ) : EReal)
    (FloatOps.addf ((k : ℝ) : EReal) ((p : ℝ) : EReal))) ((s : ℝ) : EReal) = ((q * (k + p) / s : ℝ) : EReal) := by
  show Ideal.div (((q : ℝ) : EReal) * (((k : ℝ) : EReal) + ((p : ℝ) : EReal))) ((s : ℝ) : EReal) = _
  rw [← EReal.coe_add, ← EReal.coe_mul, div_coe _ _ hs]

theorem exp_word (l m : ℝ) : FloatOps.hostUnary (F := Ideal) (φ := .f32) .exp (FloatOps.subf ((l : ℝ) : EReal) ((m : ℝ) : EReal))
    = ((Real.exp (l - m) : ℝ) : EReal) := by
  show Ideal.exp (((l : ℝ) : EReal) - ((m : ℝ) : EReal)) = _
  rw [← EReal.coe_sub]
  rfl

theorem weigh_word (e s v p : ℝ) (hs : s ≠ 0) : FloatOps.mulf (F := Ideal) (φ := .f32) (FloatOps.hostDivf ((e : ℝ) : EReal) ((s : ℝ) : EReal))
    (FloatOps.addf ((v : ℝ) : EReal) ((p : ℝ) : EReal)) = ((e / s * (v + p) : ℝ) : EReal) := by
  show Ideal.div ((e : ℝ) : EReal) ((s : ℝ) : EReal) * (((v : ℝ) : EReal) + ((p : ℝ) : EReal)) = _
  rw [div_coe _ _ hs, ← EReal.coe_add, ← EReal.coe_mul]

theorem max_word (M : ℝ) : FloatOps.maximumf (F := Ideal) (φ := .f32) (FloatOps.ofBits .f32 0xFF800000#32) ((M : ℝ) : EReal) = ((M : ℝ) : EReal) := by
  show max (Ideal.ofBits .f32 0xFF800000#32) ((M : ℝ) : EReal) = _
  rw [word_bot]
  exact max_eq_right bot_le

theorem sub_word (a b : ℝ) : FloatOps.subf (F := Ideal) (φ := .f32) ((a : ℝ) : EReal) ((b : ℝ) : EReal) = ((a - b : ℝ) : EReal) :=
  (EReal.coe_sub _ _).symm
theorem mul_word (a b : ℝ) : FloatOps.mulf (F := Ideal) (φ := .f32) ((a : ℝ) : EReal) ((b : ℝ) : EReal) = ((a * b : ℝ) : EReal) :=
  (EReal.coe_mul _ _).symm

/-- The products of a weight array and a cloud's points. -/
theorem rows_dot {C d : ℕ} (f g : Fin C → EReal) (W : Fin C → Fin d → ℝ) (X : Fin 512 → Fin C → ℝ) (n : Fin 512) (j : Fin d)
    (hf : ∀ k, f k = ((W k j : ℝ) : EReal)) (hg : ∀ k, g k = ((X n k : ℝ) : EReal)) : ∑ k, f k * g k = ((rows X W n j : ℝ) : EReal) := by
  rw [dot_coe f g _ _ hf hg]
  exact congrArg _ (Finset.sum_congr rfl fun k _ => mul_comm _ _)

/-- A neighbour's logit. -/
def logit {C R d : ℕ} (h : R = C + C) (X : Fin 512 → Fin C → ℝ) (Q K : Fin R → Fin d → ℝ) (P : Fin 512 → Fin d → ℝ) (s : ℝ) (j : Fin d) (n : Fin 512)
    (r : Fin 16) : ℝ :=
  edge X (top h Q) (low h Q) n r j * (edge X (top h K) (low h K) n r j + P n j) / s

end Cloud

end
-- ==== Proof.RefOne.lean ====
/-
  The reference's first layer.
-/
module

public import proofs.«01_k».proof.Proof.RefSteps
public import proofs.«01_k».proof.Proof.Gen.ReferenceIdeal.Read

@[expose] public section

noncomputable section

namespace Cloud.One

open Idealize.ShloMosaic Idealize.ShloMosaic.ValueIdx Cert.ReferenceIdeal Cert.ReferenceIdeal.Gen Cert.ReferenceIdeal.Read

variable {x0 : FVec Ideal S32x512x3 .f32} {X : Fin 32 → Fin 512 → Fin 3 → ℝ} (h0 : C3 32 512 3 x0 X)
include h0

theorem points : C3 32 3 512 (val_main_v0 (F := Ideal) x0) fun b c n => X b n c := fun i => (val_main_v0_apply (F := Ideal) x0 i).trans (h0 _)

theorem sizes (i : S32x512.Idx) : val_main_v5 (F := Ideal) x0 i = ((sq (X (i 0)) (i 1) : ℝ) : EReal) :=
  (val_main_v5_apply x0 i).trans (zero_sum _ word_zero _ (fun k => X (i 0) (i 1) k * X (i 0) (i 1) k) fun k => by
    rw [val_main_v4_apply, points h0]
    exact mul_word _ _)

theorem nears : C3 32 512 512 (val_main_v12 (F := Ideal) x0) fun b n m => near (X b) n m := fun i => by
  have e : val_main_v1 (F := Ideal) x0 i = ((inner2 (X (i 0)) (i 1) (i 2) : ℝ) : EReal) :=
    (val_main_v1_apply x0 i).trans (dot_coe _ _ _ _ (fun k => points h0 _) fun k => points h0 _)
  rw [val_main_v12_apply, val_main_v9_apply, val_main_v8_apply, val_main_v7_apply, val_main_v6_apply, val_main_v3_apply,
    val_main_v2_apply, val_main_cst_apply, val_main_v11_apply, val_main_v10_apply, sizes h0, sizes h0, e]
  exact near_word _ _ _

theorem words (i : S32x8192x1.Idx) : val_main_call0_v4 (F := Ideal) x0 i
    = BitVec.ofNat 32 (nbr (X (i 0)) (hi (i 1)) (lo (i 1))).val := by
  have e : val_main_v15 (F := Ideal) x0 i = BitVec.ofNat 32 (nbr (X (i 0)) (hi (i 1)) (lo (i 1))).val := by
    rw [val_main_v15_apply, val_main_v14_apply]
    exact (topk_near (nears h0) _ _).trans (flat_index (fun b n r => BitVec.ofNat 32 (nbr (X b) n r).val) (i 0) (i 1) _ _ _ rfl rfl rfl)
  rw [val_main_call0_v4_apply, val_main_call0_v1_apply, e]
  exact take_word _ _

theorem all_in (j : S32x8192.Idx) : val_main_call0_v11 (F := Ideal) x0 j = 1#1 :=
  Host.reduce_andi_one _ _ _ _ j rfl fun i => by
    rw [val_main_call0_v10_apply, val_main_call0_v6_apply, val_main_call0_v9_apply, words h0]
    exact congrArg₂ IntOp.andi (word_in _).2.1 (word_in _).2.2.1

theorem centres : C3 32 512 3 (val_main_v13 (F := Ideal) x0) X := fun i => (val_main_v13_apply (F := Ideal) x0 i).trans (points h0 _)

theorem taken_rows : C3 32 8192 3 (val_main_v16 (F := Ideal) x0) fun b p c => X b (nbr (X b) (hi p) (lo p)) c := fun i => by
  rw [val_main_v16_apply, val_main_call0_v13_apply, all_in h0]
  refine (gather_row 3 _ (val_main_v13 (F := Ideal) x0) (val_main_call0_v4 (F := Ideal) x0) i (nbr (X (i 0)) (hi (i 1)) (lo (i 1))) ?_).trans (centres h0 _)
  rw [words h0]
  exact (word_in _).2.2.2

theorem spread : C4 32 512 16 3 (val_main_v19 (F := Ideal) x0) fun b n _ c => X b n c := fun i => by
  rw [val_main_v19_apply, val_main_v18_apply]
  exact centres h0 _

theorem steps : C4 32 512 16 3 (val_main_v20 (F := Ideal) x0) fun b n r c => X b (nbr (X b) n r) c - X b n c := fun i => by
  have e : val_main_v17 (F := Ideal) x0 i = ((X (i 0) (nbr (X (i 0)) (i 1) (i 2)) (i 3) : ℝ) : EReal) := by
    have a0 : (i 0).val < 32 := (i 0).isLt
    have a1 : (i 1).val < 512 := (i 1).isLt
    have a2 : (i 2).val < 16 := (i 2).isLt
    have a3 : (i 3).val < 3 := (i 3).isLt
    rw [val_main_v17_apply]
    refine (taken_rows h0 _).trans (congrArg _ (row_index (fun b n r c => X b (nbr (X b) n r) c) (i 0) (i 1) (i 2) (i 3) _ _ _ ?_ ?_ ?_))
    · show ((((i 0).val * 512 + (i 1).val) * 16 + (i 2).val) * 3 + (i 3).val) / 24576 = (i 0).val
      omega
    · show ((((i 0).val * 512 + (i 1).val) * 16 + (i 2).val) * 3 + (i 3).val) / 3 % 8192 = (i 1).val * 16 + (i 2).val
      omega
    · show ((((i 0).val * 512 + (i 1).val) * 16 + (i 2).val) * 3 + (i 3).val) % 3 = (i 3).val
      omega
  rw [val_main_v20_apply, e, spread h0]
  exact sub_word _ _

theorem pairs : C4 32 6 512 16 (val_main_v22 (F := Ideal) x0) fun b k n r => pairUp (C := 3) rfl (X b) n r k := fun i => by
  rw [val_main_v22_apply]
  exact pairUp_apply (C := 3) rfl (steps h0) (spread h0) _ _

section
variable {x : FVec Ideal S6x64 .f32} {W : Fin 6 → Fin 64 → ℝ} (hw : Real2 x W)
include hw

theorem query : C4 32 64 512 16 (val_main_v24 (F := Ideal) x0 x) fun b j n r => edge (X b) (top (C := 3) rfl W) (low (C := 3) rfl W) n r j := fun i => by
  rw [val_main_v24_apply, val_main_v23_apply, dot_coe _ _ _ _ (fun k => hw.at _) fun k => pairs h0 _]
  exact congrArg _ (pairUp_dot (C := 3) rfl (X (i 0)) W (i 2) (i 3) (i 1))

theorem key : C4 32 64 512 16 (val_main_v26 (F := Ideal) x0 x) fun b j n r => edge (X b) (top (C := 3) rfl W) (low (C := 3) rfl W) n r j := query h0 hw

theorem value : C4 32 64 512 16 (val_main_v28 (F := Ideal) x0 x) fun b j n r => edge (X b) (top (C := 3) rfl W) (low (C := 3) rfl W) n r j := query h0 hw

end

section
variable {x4 : FVec Ideal S3x64 .f32} {P : Fin 3 → Fin 64 → ℝ} (h4 : Real2 x4 P)
include h4

theorem position (i : S32x64x512x1.Idx) : val_main_v31 (F := Ideal) x0 x4 i = ((rows (X (i 0)) P (i 2) (i 1) : ℝ) : EReal) := by
  rw [val_main_v31_apply, val_main_v30_apply, val_main_v29_apply]
  exact rows_dot _ _ P (X (i 0)) (i 2) (i 1) (fun k => h4.at _) fun k => points h0 _

variable {x1 x2 x3 : FVec Ideal S6x64 .f32} {Q K V : Fin 6 → Fin 64 → ℝ} (h1 : Real2 x1 Q) (h2 : Real2 x2 K) (h3 : Real2 x3 V)
include h1 h2

theorem logits : C4 32 64 512 16 (val_main_v38 (F := Ideal) x0 x1 x2 x4) fun b j n r => logit (C := 3) rfl (X b) Q K (rows (X b) P) 8 j n r := fun i => by
  have e : val_main_v37 (F := Ideal) i = ((8 : ℝ) : EReal) := by
    rw [val_main_v37_apply, ← root_64]
    exact root_word _ _ word_64 (by norm_num)
  rw [val_main_v38_apply, e, val_main_v34_apply, val_main_v33_apply, val_main_v32_apply, position h0 h4, query h0 h1, key h0 h2]
  exact logit_word _ _ _ 8 (by norm_num)

include h3

theorem out : C3 32 64 512 (val_main_v53 (F := Ideal) x0 x1 x2 x3 x4)
    fun b j n => layer (C := 3) rfl (X b) Q K V (rows (X b) P) 8 n j := fun i => by
  obtain ⟨M, hM⟩ := max_last (logits h0 h4 h1 h2) reducesTo_S32x64x512x16_S32x64x512_d3 h_S_
    (by decide) (by decide) rfl i
  have hm : ∀ r : Fin 16, val_main_v43 (F := Ideal) x0 x1 x2 x4 (idx_main_v53 i r) = ((M : ℝ) : EReal) := fun r => by
    rw [val_main_v43_apply, val_main_v42_apply, val_main_v41_apply, val_main_v40_apply, val_main_cst_3_apply,
      show idx_main_v42 (idx_main_v43 (idx_main_v53 i r)) = i from idx3_ext rfl rfl rfl]
    exact (congrArg _ hM).trans (max_word M)
  have hx : ∀ r : Fin 16, val_main_v45 (F := Ideal) x0 x1 x2 x4 (idx_main_v53 i r)
      = ((Real.exp (logit (C := 3) rfl (X (i 0)) Q K (rows (X (i 0)) P) 8 (i 1) (i 2) r - M) : ℝ) : EReal) := fun r => by
    rw [val_main_v45_apply, val_main_v44_apply, hm, logits h0 h4 h1 h2]
    exact exp_word _ _
  have hs : ∀ r : Fin 16, val_main_v48 (F := Ideal) x0 x1 x2 x4 (idx_main_v53 i r)
      = ((∑ r, Real.exp (logit (C := 3) rfl (X (i 0)) Q K (rows (X (i 0)) P) 8 (i 1) (i 2) r - M) : ℝ) : EReal) := fun r => by
    rw [val_main_v48_apply, val_main_v47_apply, val_main_v46_apply]
    exact zero_sum _ word_zero _ _ hx
  refine (val_main_v53_apply x0 x1 x2 x3 x4 i).trans ?_
  refine (zero_sum _ word_zero _ (fun r => Real.exp (logit (C := 3) rfl (X (i 0)) Q K (rows (X (i 0)) P) 8 (i 1) (i 2) r - M)
      / (∑ r', Real.exp (logit (C := 3) rfl (X (i 0)) Q K (rows (X (i 0)) P) 8 (i 1) (i 2) r' - M))
      * (edge (X (i 0)) (top (C := 3) rfl V) (low (C := 3) rfl V) (i 2) r (i 1) + rows (X (i 0)) P (i 2) (i 1))) fun r => ?_).trans ?_
  · rw [val_main_v52_apply, val_main_v49_apply, hx, hs, val_main_v51_apply, val_main_v50_apply, position h0 h4, value h0 h3]
    exact weigh_word _ _ _ _ (exp_sum_pos _).ne'
  · exact congrArg _ (attend (logit (C := 3) rfl (X (i 0)) Q K (rows (X (i 0)) P) 8 (i 1) (i 2)) _ M)

end

end Cloud.One

end
-- ==== Proof.RefTwo.lean ====
/-
  The reference's second layer: from any known values of the first layer's output.
-/
module

public import proofs.«01_k».proof.Proof.RefOne

@[expose] public section

noncomputable section

namespace Cloud.Two

open Idealize.ShloMosaic Idealize.ShloMosaic.ValueIdx Cert.ReferenceIdeal Cert.ReferenceIdeal.Gen Cert.ReferenceIdeal.Read

variable {x0 : FVec Ideal S32x512x3 .f32} {x1 x2 x3 : FVec Ideal S6x64 .f32} {x4 : FVec Ideal S3x64 .f32}
  {X : Fin 32 → Fin 512 → Fin 64 → ℝ} (h0 : C3 32 64 512 (val_main_v53 (F := Ideal) x0 x1 x2 x3 x4) fun b c n => X b n c)
include h0

theorem sizes (i : S32x512.Idx) : val_main_v58 (F := Ideal) x0 x1 x2 x3 x4 i = ((sq (X (i 0)) (i 1) : ℝ) : EReal) :=
  (val_main_v58_apply x0 x1 x2 x3 x4 i).trans (zero_sum _ word_zero _ (fun k => X (i 0) (i 1) k * X (i 0) (i 1) k) fun k => by
    rw [val_main_v57_apply, h0]
    exact mul_word _ _)

theorem nears : C3 32 512 512 (val_main_v65 (F := Ideal) x0 x1 x2 x3 x4) fun b n m => near (X b) n m := fun i => by
  have e : val_main_v54 (F := Ideal) x0 x1 x2 x3 x4 i = ((inner2 (X (i 0)) (i 1) (i 2) : ℝ) : EReal) :=
    (val_main_v54_apply x0 x1 x2 x3 x4 i).trans (dot_coe _ _ _ _ (fun k => h0 _) fun k => h0 _)
  rw [val_main_v65_apply, val_main_v62_apply, val_main_v61_apply, val_main_v60_apply, val_main_v59_apply, val_main_v56_apply,
    val_main_v55_apply, val_main_cst_6_apply, val_main_v64_apply, val_main_v63_apply, sizes h0, sizes h0, e]
  exact near_word _ _ _

theorem words (i : S32x8192x1.Idx) : val_main_call1_v4 (F := Ideal) x0 x1 x2 x3 x4 i
    = BitVec.ofNat 32 (nbr (X (i 0)) (hi (i 1)) (lo (i 1))).val := by
  have e : val_main_v68 (F := Ideal) x0 x1 x2 x3 x4 i = BitVec.ofNat 32 (nbr (X (i 0)) (hi (i 1)) (lo (i 1))).val := by
    rw [val_main_v68_apply, val_main_v67_apply]
    exact (topk_near (nears h0) _ _).trans (flat_index (fun b n r => BitVec.ofNat 32 (nbr (X b) n r).val) (i 0) (i 1) _ _ _ rfl rfl rfl)
  rw [val_main_call1_v4_apply, val_main_call1_v1_apply, e]
  exact take_word _ _

theorem all_in (j : S32x8192.Idx) : val_main_call1_v11 (F := Ideal) x0 x1 x2 x3 x4 j = 1#1 :=
  Host.reduce_andi_one _ _ _ _ j rfl fun i => by
    rw [val_main_call1_v10_apply, val_main_call1_v6_apply, val_main_call1_v9_apply, words h0]
    exact congrArg₂ IntOp.andi (word_in _).2.1 (word_in _).2.2.1

theorem centres : C3 32 512 64 (val_main_v66 (F := Ideal) x0 x1 x2 x3 x4) X := fun i => (val_main_v66_apply (F := Ideal) x0 x1 x2 x3 x4 i).trans (h0 _)

theorem taken_rows : C3 32 8192 64 (val_main_v69 (F := Ideal) x0 x1 x2 x3 x4) fun b p c => X b (nbr (X b) (hi p) (lo p)) c := fun i => by
  rw [val_main_v69_apply, val_main_call1_v13_apply, all_in h0]
  refine (gather_row 64 _ (val_main_v66 (F := Ideal) x0 x1 x2 x3 x4) (val_main_call1_v4 (F := Ideal) x0 x1 x2 x3 x4) i
    (nbr (X (i 0)) (hi (i 1)) (lo (i 1))) ?_).trans (centres h0 _)
  rw [words h0]
  exact (word_in _).2.2.2

theorem spread : C4 32 512 16 64 (val_main_v72 (F := Ideal) x0 x1 x2 x3 x4) fun b n _ c => X b n c := fun i => by
  rw [val_main_v72_apply, val_main_v71_apply]
  exact centres h0 _

theorem steps : C4 32 512 16 64 (val_main_v73 (F := Ideal) x0 x1 x2 x3 x4) fun b n r c => X b (nbr (X b) n r) c - X b n c := fun i => by
  have e : val_main_v70 (F := Ideal) x0 x1 x2 x3 x4 i = ((X (i 0) (nbr (X (i 0)) (i 1) (i 2)) (i 3) : ℝ) : EReal) := by
    have a0 : (i 0).val < 32 := (i 0).isLt
    have a1 : (i 1).val < 512 := (i 1).isLt
    have a2 : (i 2).val < 16 := (i 2).isLt
    have a3 : (i 3).val < 64 := (i 3).isLt
    rw [val_main_v70_apply]
    refine (taken_rows h0 _).trans (congrArg _ (row_index (fun b n r c => X b (nbr (X b) n r) c) (i 0) (i 1) (i 2) (i 3) _ _ _ ?_ ?_ ?_))
    · show ((((i 0).val * 512 + (i 1).val) * 16 + (i 2).val) * 64 + (i 3).val) / 524288 = (i 0).val
      omega
    · show ((((i 0).val * 512 + (i 1).val) * 16 + (i 2).val) * 64 + (i 3).val) / 64 % 8192 = (i 1).val * 16 + (i 2).val
      omega
    · show ((((i 0).val * 512 + (i 1).val) * 16 + (i 2).val) * 64 + (i 3).val) % 64 = (i 3).val
      omega
  rw [val_main_v73_apply, e, spread h0]
  exact sub_word _ _

theorem pairs : C4 32 128 512 16 (val_main_v75 (F := Ideal) x0 x1 x2 x3 x4) fun b k n r => pairUp (C := 64) rfl (X b) n r k := fun i => by
  rw [val_main_v75_apply]
  exact pairUp_apply (C := 64) rfl (steps h0) (spread h0) _ _

section
variable {x : FVec Ideal S128x64 .f32} {W : Fin 128 → Fin 64 → ℝ} (hw : Real2 x W)
include hw

theorem query : C4 32 64 512 16 (val_main_v77 (F := Ideal) x0 x1 x2 x3 x4 x)
    fun b j n r => edge (X b) (top (C := 64) rfl W) (low (C := 64) rfl W) n r j := fun i => by
  rw [val_main_v77_apply, val_main_v76_apply, dot_coe _ _ _ _ (fun k => hw.at _) fun k => pairs h0 _]
  exact congrArg _ (pairUp_dot (C := 64) rfl (X (i 0)) W (i 2) (i 3) (i 1))

theorem key : C4 32 64 512 16 (val_main_v79 (F := Ideal) x0 x1 x2 x3 x4 x)
    fun b j n r => edge (X b) (top (C := 64) rfl W) (low (C := 64) rfl W) n r j := query h0 hw

theorem value : C4 32 64 512 16 (val_main_v81 (F := Ideal) x0 x1 x2 x3 x4 x)
    fun b j n r => edge (X b) (top (C := 64) rfl W) (low (C := 64) rfl W) n r j := query h0 hw

end

section
variable {Z : Fin 32 → Fin 512 → Fin 3 → ℝ} (hz : C3 32 512 3 x0 Z) {x8 : FVec Ideal S3x64 .f32} {P : Fin 3 → Fin 64 → ℝ} (h8 : Real2 x8 P)
include hz h8

omit h0 in
theorem position (i : S32x64x512x1.Idx) : val_main_v84 (F := Ideal) x0 x8 i = ((rows (Z (i 0)) P (i 2) (i 1) : ℝ) : EReal) := by
  rw [val_main_v84_apply, val_main_v83_apply, val_main_v82_apply]
  exact rows_dot _ _ P (Z (i 0)) (i 2) (i 1) (fun k => h8.at _) fun k => One.points hz _

variable {x5 x6 x7 : FVec Ideal S128x64 .f32} {Q K V : Fin 128 → Fin 64 → ℝ} (h5 : Real2 x5 Q) (h6 : Real2 x6 K) (h7 : Real2 x7 V)
include h5 h6

theorem logits : C4 32 64 512 16 (val_main_v91 (F := Ideal) x0 x1 x2 x3 x4 x5 x6 x8)
    fun b j n r => logit (C := 64) rfl (X b) Q K (rows (Z b) P) 8 j n r := fun i => by
  have e : val_main_v90 (F := Ideal) i = ((8 : ℝ) : EReal) := by
    rw [val_main_v90_apply, ← root_64]
    exact root_word _ _ word_64 (by norm_num)
  rw [val_main_v91_apply, e, val_main_v87_apply, val_main_v86_apply, val_main_v85_apply, position hz h8, query h0 h5, key h0 h6]
  exact logit_word _ _ _ 8 (by norm_num)

include h7

theorem out : C3 32 64 512 (val_main_v106 (F := Ideal) x0 x1 x2 x3 x4 x5 x6 x7 x8)
    fun b j n => layer (C := 64) rfl (X b) Q K V (rows (Z b) P) 8 n j := fun i => by
  obtain ⟨M, hM⟩ := max_last (logits h0 hz h8 h5 h6) reducesTo_S32x64x512x16_S32x64x512_d3 h_S_
    (by decide) (by decide) rfl i
  have hm : ∀ r : Fin 16, val_main_v96 (F := Ideal) x0 x1 x2 x3 x4 x5 x6 x8 (idx_main_v106 i r) = ((M : ℝ) : EReal) := fun r => by
    rw [val_main_v96_apply, val_main_v95_apply, val_main_v94_apply, val_main_v93_apply, val_main_cst_12_apply,
      show idx_main_v95 (idx_main_v96 (idx_main_v106 i r)) = i from idx3_ext rfl rfl rfl]
    exact (congrArg _ hM).trans (max_word M)
  have hx : ∀ r : Fin 16, val_main_v98 (F := Ideal) x0 x1 x2 x3 x4 x5 x6 x8 (idx_main_v106 i r)
      = ((Real.exp (logit (C := 64) rfl (X (i 0)) Q K (rows (Z (i 0)) P) 8 (i 1) (i 2) r - M) : ℝ) : EReal) := fun r => by
    rw [val_main_v98_apply, val_main_v97_apply, hm, logits h0 hz h8 h5 h6]
    exact exp_word _ _
  have hs : ∀ r : Fin 16, val_main_v101 (F := Ideal) x0 x1 x2 x3 x4 x5 x6 x8 (idx_main_v106 i r)
      = ((∑ r, Real.exp (logit (C := 64) rfl (X (i 0)) Q K (rows (Z (i 0)) P) 8 (i 1) (i 2) r - M) : ℝ) : EReal) := fun r => by
    rw [val_main_v101_apply, val_main_v100_apply, val_main_v99_apply]
    exact zero_sum _ word_zero _ _ hx
  refine (val_main_v106_apply x0 x1 x2 x3 x4 x5 x6 x7 x8 i).trans ?_
  refine (zero_sum _ word_zero _ (fun r => Real.exp (logit (C := 64) rfl (X (i 0)) Q K (rows (Z (i 0)) P) 8 (i 1) (i 2) r - M)
      / (∑ r', Real.exp (logit (C := 64) rfl (X (i 0)) Q K (rows (Z (i 0)) P) 8 (i 1) (i 2) r' - M))
      * (edge (X (i 0)) (top (C := 64) rfl V) (low (C := 64) rfl V) (i 2) r (i 1) + rows (Z (i 0)) P (i 2) (i 1))) fun r => ?_).trans ?_
  · rw [val_main_v105_apply, val_main_v102_apply, hx, hs, val_main_v104_apply, val_main_v103_apply, position hz h8, value h0 h7]
    exact weigh_word _ _ _ _ (exp_sum_pos _).ne'
  · exact congrArg _ (attend (logit (C := 64) rfl (X (i 0)) Q K (rows (Z (i 0)) P) 8 (i 1) (i 2)) _ M)

end

end Cloud.Two

end
-- ==== Proof.RefThree.lean ====
/-
  The reference's third layer: from any known values of the second layer's output.
-/
module

public import proofs.«01_k».proof.Proof.RefOne

@[expose] public section

noncomputable section

namespace Cloud.Three

open Idealize.ShloMosaic Idealize.ShloMosaic.ValueIdx Cert.ReferenceIdeal Cert.ReferenceIdeal.Gen Cert.ReferenceIdeal.Read

variable {x0 : FVec Ideal S32x512x3 .f32} {x1 x2 x3 : FVec Ideal S6x64 .f32} {x4 x8 : FVec Ideal S3x64 .f32} {x5 x6 x7 : FVec Ideal S128x64 .f32}
  {X : Fin 32 → Fin 512 → Fin 64 → ℝ} (h0 : C3 32 64 512 (val_main_v106 (F := Ideal) x0 x1 x2 x3 x4 x5 x6 x7 x8) fun b c n => X b n c)
include h0

theorem sizes (i : S32x512.Idx) : val_main_v111 (F := Ideal) x0 x1 x2 x3 x4 x5 x6 x7 x8 i = ((sq (X (i 0)) (i 1) : ℝ) : EReal) :=
  (val_main_v111_apply x0 x1 x2 x3 x4 x5 x6 x7 x8 i).trans (zero_sum _ word_zero _ (fun k => X (i 0) (i 1) k * X (i 0) (i 1) k) fun k => by
    rw [val_main_v110_apply, h0]
    exact mul_word _ _)

theorem nears : C3 32 512 512 (val_main_v118 (F := Ideal) x0 x1 x2 x3 x4 x5 x6 x7 x8) fun b n m => near (X b) n m := fun i => by
  have e : val_main_v107 (F := Ideal) x0 x1 x2 x3 x4 x5 x6 x7 x8 i = ((inner2 (X (i 0)) (i 1) (i 2) : ℝ) : EReal) :=
    (val_main_v107_apply x0 x1 x2 x3 x4 x5 x6 x7 x8 i).trans (dot_coe _ _ _ _ (fun k => h0 _) fun k => h0 _)
  rw [val_main_v118_apply, val_main_v115_apply, val_main_v114_apply, val_main_v113_apply, val_main_v112_apply, val_main_v109_apply,
    val_main_v108_apply, val_main_cst_15_apply, val_main_v117_apply, val_main_v116_apply, sizes h0, sizes h0, e]
  exact near_word _ _ _

theorem words (i : S32x8192x1.Idx) : val_main_call2_v4 (F := Ideal) x0 x1 x2 x3 x4 x5 x6 x7 x8 i
    = BitVec.ofNat 32 (nbr (X (i 0)) (hi (i 1)) (lo (i 1))).val := by
  have e : val_main_v121 (F := Ideal) x0 x1 x2 x3 x4 x5 x6 x7 x8 i = BitVec.ofNat 32 (nbr (X (i 0)) (hi (i 1)) (lo (i 1))).val := by
    rw [val_main_v121_apply, val_main_v120_apply]
    exact (topk_near (nears h0) _ _).trans (flat_index (fun b n r => BitVec.ofNat 32 (nbr (X b) n r).val) (i 0) (i 1) _ _ _ rfl rfl rfl)
  rw [val_main_call2_v4_apply, val_main_call2_v1_apply, e]
  exact take_word _ _

theorem all_in (j : S32x8192.Idx) : val_main_call2_v11 (F := Ideal) x0 x1 x2 x3 x4 x5 x6 x7 x8 j = 1#1 :=
  Host.reduce_andi_one _ _ _ _ j rfl fun i => by
    rw [val_main_call2_v10_apply, val_main_call2_v6_apply, val_main_call2_v9_apply, words h0]
    exact congrArg₂ IntOp.andi (word_in _).2.1 (word_in _).2.2.1

theorem centres : C3 32 512 64 (val_main_v119 (F := Ideal) x0 x1 x2 x3 x4 x5 x6 x7 x8) X := fun i => (val_main_v119_apply (F := Ideal) x0 x1 x2 x3 x4 x5 x6 x7 x8 i).trans (h0 _)

theorem taken_rows : C3 32 8192 64 (val_main_v122 (F := Ideal) x0 x1 x2 x3 x4 x5 x6 x7 x8) fun b p c => X b (nbr (X b) (hi p) (lo p)) c := fun i => by
  rw [val_main_v122_apply, val_main_call2_v13_apply, all_in h0]
  refine (gather_row 64 _ (val_main_v119 (F := Ideal) x0 x1 x2 x3 x4 x5 x6 x7 x8) (val_main_call2_v4 (F := Ideal) x0 x1 x2 x3 x4 x5 x6 x7 x8) i
    (nbr (X (i 0)) (hi (i 1)) (lo (i 1))) ?_).trans (centres h0 _)
  rw [words h0]
  exact (word_in _).2.2.2

theorem spread : C4 32 512 16 64 (val_main_v125 (F := Ideal) x0 x1 x2 x3 x4 x5 x6 x7 x8) fun b n _ c => X b n c := fun i => by
  rw [val_main_v125_apply, val_main_v124_apply]
  exact centres h0 _

theorem steps : C4 32 512 16 64 (val_main_v126 (F := Ideal) x0 x1 x2 x3 x4 x5 x6 x7 x8) fun b n r c => X b (nbr (X b) n r) c - X b n c := fun i => by
  have e : val_main_v123 (F := Ideal) x0 x1 x2 x3 x4 x5 x6 x7 x8 i = ((X (i 0) (nbr (X (i 0)) (i 1) (i 2)) (i 3) : ℝ) : EReal) := by
    have a0 : (i 0).val < 32 := (i 0).isLt
    have a1 : (i 1).val < 512 := (i 1).isLt
    have a2 : (i 2).val < 16 := (i 2).isLt
    have a3 : (i 3).val < 64 := (i 3).isLt
    rw [val_main_v123_apply]
    refine (taken_rows h0 _).trans (congrArg _ (row_index (fun b n r c => X b (nbr (X b) n r) c) (i 0) (i 1) (i 2) (i 3) _ _ _ ?_ ?_ ?_))
    · show ((((i 0).val * 512 + (i 1).val) * 16 + (i 2).val) * 64 + (i 3).val) / 524288 = (i 0).val
      omega
    · show ((((i 0).val * 512 + (i 1).val) * 16 + (i 2).val) * 64 + (i 3).val) / 64 % 8192 = (i 1).val * 16 + (i 2).val
      omega
    · show ((((i 0).val * 512 + (i 1).val) * 16 + (i 2).val) * 64 + (i 3).val) % 64 = (i 3).val
      omega
  rw [val_main_v126_apply, e, spread h0]
  exact sub_word _ _

theorem pairs : C4 32 128 512 16 (val_main_v128 (F := Ideal) x0 x1 x2 x3 x4 x5 x6 x7 x8) fun b k n r => pairUp (C := 64) rfl (X b) n r k := fun i => by
  rw [val_main_v128_apply]
  exact pairUp_apply (C := 64) rfl (steps h0) (spread h0) _ _

section
variable {x : FVec Ideal S128x128 .f32} {W : Fin 128 → Fin 128 → ℝ} (hw : Real2 x W)
include hw

theorem query : C4 32 128 512 16 (val_main_v130 (F := Ideal) x0 x1 x2 x3 x4 x5 x6 x7 x8 x)
    fun b j n r => edge (X b) (top (C := 64) rfl W) (low (C := 64) rfl W) n r j := fun i => by
  rw [val_main_v130_apply, val_main_v129_apply, dot_coe _ _ _ _ (fun k => hw.at _) fun k => pairs h0 _]
  exact congrArg _ (pairUp_dot (C := 64) rfl (X (i 0)) W (i 2) (i 3) (i 1))

theorem key : C4 32 128 512 16 (val_main_v132 (F := Ideal) x0 x1 x2 x3 x4 x5 x6 x7 x8 x)
    fun b j n r => edge (X b) (top (C := 64) rfl W) (low (C := 64) rfl W) n r j := query h0 hw

theorem value : C4 32 128 512 16 (val_main_v134 (F := Ideal) x0 x1 x2 x3 x4 x5 x6 x7 x8 x)
    fun b j n r => edge (X b) (top (C := 64) rfl W) (low (C := 64) rfl W) n r j := query h0 hw

end

section
variable {Z : Fin 32 → Fin 512 → Fin 3 → ℝ} (hz : C3 32 512 3 x0 Z) {x12 : FVec Ideal S3x128 .f32} {P : Fin 3 → Fin 128 → ℝ} (h12 : Real2 x12 P)
include hz h12

omit h0 in
theorem position (i : S32x128x512x1.Idx) : val_main_v137 (F := Ideal) x0 x12 i = ((rows (Z (i 0)) P (i 2) (i 1) : ℝ) : EReal) := by
  rw [val_main_v137_apply, val_main_v136_apply, val_main_v135_apply]
  exact rows_dot _ _ P (Z (i 0)) (i 2) (i 1) (fun k => h12.at _) fun k => One.points hz _

variable {x9 x10 x11 : FVec Ideal S128x128 .f32} {Q K V : Fin 128 → Fin 128 → ℝ} (h9 : Real2 x9 Q) (h10 : Real2 x10 K) (h11 : Real2 x11 V)
include h9 h10

theorem logits : C4 32 128 512 16 (val_main_v144 (F := Ideal) x0 x1 x2 x3 x4 x5 x6 x7 x8 x9 x10 x12)
    fun b j n r => logit (C := 64) rfl (X b) Q K (rows (Z b) P) (Real.sqrt 128) j n r := fun i => by
  have e : val_main_v143 (F := Ideal) i = ((Real.sqrt 128 : ℝ) : EReal) := by
    rw [val_main_v143_apply]
    exact root_word _ _ word_128 (by norm_num)
  rw [val_main_v144_apply, e, val_main_v140_apply, val_main_v139_apply, val_main_v138_apply, position hz h12, query h0 h9, key h0 h10]
  exact logit_word _ _ _ (Real.sqrt 128) (by positivity)

include h11

theorem out : C3 32 128 512 (val_main_v159 (F := Ideal) x0 x1 x2 x3 x4 x5 x6 x7 x8 x9 x10 x11 x12)
    fun b j n => layer (C := 64) rfl (X b) Q K V (rows (Z b) P) (Real.sqrt 128) n j := fun i => by
  obtain ⟨M, hM⟩ := max_last (logits h0 hz h12 h9 h10) reducesTo_S32x128x512x16_S32x128x512_d3 h_S_
    (by decide) (by decide) rfl i
  have hm : ∀ r : Fin 16, val_main_v149 (F := Ideal) x0 x1 x2 x3 x4 x5 x6 x7 x8 x9 x10 x12 (idx_main_v159 i r) = ((M : ℝ) : EReal) := fun r => by
    rw [val_main_v149_apply, val_main_v148_apply, val_main_v147_apply, val_main_v146_apply, val_main_cst_21_apply,
      show idx_main_v148 (idx_main_v149 (idx_main_v159 i r)) = i from idx3_ext rfl rfl rfl]
    exact (congrArg _ hM).trans (max_word M)
  have hx : ∀ r : Fin 16, val_main_v151 (F := Ideal) x0 x1 x2 x3 x4 x5 x6 x7 x8 x9 x10 x12 (idx_main_v159 i r)
      = ((Real.exp (logit (C := 64) rfl (X (i 0)) Q K (rows (Z (i 0)) P) (Real.sqrt 128) (i 1) (i 2) r - M) : ℝ) : EReal) := fun r => by
    rw [val_main_v151_apply, val_main_v150_apply, hm, logits h0 hz h12 h9 h10]
    exact exp_word _ _
  have hs : ∀ r : Fin 16, val_main_v154 (F := Ideal) x0 x1 x2 x3 x4 x5 x6 x7 x8 x9 x10 x12 (idx_main_v159 i r)
      = ((∑ r, Real.exp (logit (C := 64) rfl (X (i 0)) Q K (rows (Z (i 0)) P) (Real.sqrt 128) (i 1) (i 2) r - M) : ℝ) : EReal) := fun r => by
    rw [val_main_v154_apply, val_main_v153_apply, val_main_v152_apply]
    exact zero_sum _ word_zero _ _ hx
  refine (val_main_v159_apply x0 x1 x2 x3 x4 x5 x6 x7 x8 x9 x10 x11 x12 i).trans ?_
  refine (zero_sum _ word_zero _ (fun r => Real.exp (logit (C := 64) rfl (X (i 0)) Q K (rows (Z (i 0)) P) (Real.sqrt 128) (i 1) (i 2) r - M)
      / (∑ r', Real.exp (logit (C := 64) rfl (X (i 0)) Q K (rows (Z (i 0)) P) (Real.sqrt 128) (i 1) (i 2) r' - M))
      * (edge (X (i 0)) (top (C := 64) rfl V) (low (C := 64) rfl V) (i 2) r (i 1) + rows (Z (i 0)) P (i 2) (i 1))) fun r => ?_).trans ?_
  · rw [val_main_v158_apply, val_main_v155_apply, hx, hs, val_main_v157_apply, val_main_v156_apply, position hz h12, value h0 h11]
    exact weigh_word _ _ _ _ (exp_sum_pos _).ne'
  · exact congrArg _ (attend (logit (C := 64) rfl (X (i 0)) Q K (rows (Z (i 0)) P) (Real.sqrt 128) (i 1) (i 2)) _ M)

end

end Cloud.Three

end
-- ==== Proof.RefPool.lean ====
/-
  The reference's result: the three layers' features joined, their largest values and their means over the points.
-/
module

public import proofs.«01_k».proof.Proof.KernelValue
public import proofs.«01_k».proof.Proof.RefTwo
public import proofs.«01_k».proof.Proof.RefThree

@[expose] public section

noncomputable section

namespace Cloud

open Idealize.ShloMosaic Idealize.ShloMosaic.ValueIdx Cert.ReferenceIdeal Cert.ReferenceIdeal.Gen Cert.ReferenceIdeal.Read

theorem word_512 : Ideal.ofBits .f32 0x44000000#32 = ((512 : ℝ) : EReal) := by
  simp [Ideal.ofBits, Ideal.ieee, -EReal.coe_mul]; norm_num

theorem mean_word (a w : EReal) {s : ℝ} (ha : a = ((s : ℝ) : EReal)) (hw : w = FloatOps.ofBits (F := Ideal) .f32 0x44000000#32) :
    FloatOps.hostDivf (F := Ideal) (φ := .f32) a w = ((s / 512 : ℝ) : EReal) := by
  rw [ha, hw]
  show Ideal.div _ (Ideal.ofBits .f32 0x44000000#32) = _
  rw [word_512]
  exact div_coe _ _ (by norm_num)

/-- Three features' arrays joined along the features. -/
theorem join_feats {u v : FVec Ideal S32x64x512 .f32} {w : FVec Ideal S32x128x512 .f32} {A B : Fin 32 → Fin 512 → Fin 64 → ℝ}
    {E : Fin 32 → Fin 512 → Fin 128 → ℝ} (hu : C3 32 64 512 u fun b j n => A b n j) (hv : C3 32 64 512 v fun b j n => B b n j)
    (hw : C3 32 128 512 w fun b j n => E b n j)
    (h : Shape.Concatenates [S32x64x512, S32x64x512, S32x128x512] S32x256x512 1) :
    C3 32 256 512 (concatenate S32x256x512 1 [⟨S32x64x512, u⟩, ⟨S32x64x512, v⟩, ⟨S32x128x512, w⟩] h)
      fun b k n => feats (A b) (B b) (E b) n k := by
  intro i
  have hk : (i 1).val < 256 := (i 1).isLt
  have off : ∀ {c : ℕ} (j : Fin c) (x : Fin 3), x ≠ 1
      → ((ix3 (i 0) j (i 2) : (⟨3, ![32, c, 512]⟩ : Shape).Idx) x).val = (i x).val := fun j x => match x with
    | ⟨0, _⟩ => fun _ => rfl
    | ⟨1, _⟩ => fun hne => absurd rfl hne
    | ⟨2, _⟩ => fun _ => rfl
  show _ = ((feats (A (i 0)) (B (i 0)) (E (i 0)) (i 2) (i 1) : ℝ) : EReal)
  by_cases h1 : (i 1).val < 64
  · have e : feats (A (i 0)) (B (i 0)) (E (i 0)) (i 2) (i 1) = A (i 0) (i 2) ⟨(i 1).val, h1⟩ := dif_pos h1
    rw [e]
    exact (concatenate_apply_piece (t := S32x256x512) 1 [⟨S32x64x512, u⟩, ⟨S32x64x512, v⟩, ⟨S32x128x512, w⟩] h i 0 (by show 0 < 3; omega)
      S32x64x512 u rfl rfl 0 rfl (ix3 (i 0) (⟨(i 1).val, h1⟩ : Fin 64) (i 2)) (off _) (by show 0 + (i 1).val = (i 1).val; omega)).trans (hu _)
  · by_cases h2 : (i 1).val < 128
    · have e : feats (A (i 0)) (B (i 0)) (E (i 0)) (i 2) (i 1) = B (i 0) (i 2) ⟨(i 1).val - 64, by omega⟩ := (dif_neg h1).trans (dif_pos h2)
      rw [e]
      exact (concatenate_apply_piece (t := S32x256x512) 1 [⟨S32x64x512, u⟩, ⟨S32x64x512, v⟩, ⟨S32x128x512, w⟩] h i 1 (by show 1 < 3; omega)
        S32x64x512 v rfl rfl 64 rfl (ix3 (i 0) (⟨(i 1).val - 64, by omega⟩ : Fin 64) (i 2)) (off _)
        (by show 64 + ((i 1).val - 64) = (i 1).val; omega)).trans (hv _)
    · have e : feats (A (i 0)) (B (i 0)) (E (i 0)) (i 2) (i 1) = E (i 0) (i 2) ⟨(i 1).val - 128, by omega⟩ := (dif_neg h1).trans (dif_neg h2)
      rw [e]
      exact (concatenate_apply_piece (t := S32x256x512) 1 [⟨S32x64x512, u⟩, ⟨S32x64x512, v⟩, ⟨S32x128x512, w⟩] h i 2 (by show 2 < 3; omega)
        S32x128x512 w rfl rfl 128 rfl (ix3 (i 0) (⟨(i 1).val - 128, by omega⟩ : Fin 128) (i 2)) (off _)
        (by show 128 + ((i 1).val - 128) = (i 1).val; omega)).trans (hw _)

theorem lift_points (h : S32x256x512.Reduces [2] S32x256) (i : S32x256.Idx) (n : Fin 512) (x : Fin 3) :
    (h.lift i n) x = match x with | ⟨0, _⟩ => i 0 | ⟨1, _⟩ => i 1 | ⟨2, _⟩ => n := by
  match x with
  | ⟨0, _⟩ => rfl
  | ⟨1, _⟩ => rfl
  | ⟨2, _⟩ => rfl

theorem max_points {y : FVec Ideal S32x256x512 .f32} {G : Fin 32 → Fin 256 → Fin 512 → ℝ} (hy : C3 32 256 512 y G)
    (h : S32x256x512.ReducesTo [2] S32x256) (hu : 0 < S_.numel) (h' : S32x256x512.Reduces [2] S32x256) (hφ : FKind.Formats .f32)
    (hacc : 0xFF800000#32 = FKind.maximumf.neutral .f32 hφ) (i : S32x256.Idx) :
    Host.reduce (FloatOps.maximumf (F := Ideal) (φ := .f32)) y (constant (F := Ideal) S_ .f32 0xFF800000#32) h hu i
      = Finset.univ.fold max ⊥ (fun n => ((G (i 0) (i 1) n : ℝ) : EReal)) := by
  rw [hostReduce_maximumf_eq_multiReduction y _ h hu h' hφ hacc]
  refine (Ideal.multiReduction_maximumf_single y _ h' hφ hacc i).trans ?_
  have e' : y ∘ h'.lift i = fun n => ((G (i 0) (i 1) n : ℝ) : EReal) := funext fun n => hy _
  rw [e']
  show Finset.univ.fold max (Ideal.ofBits .f32 0xFF800000#32) _ = _
  rw [word_bot]
  rfl

/-- Two arrays side by side. -/
theorem halves {p q : FVec Ideal S32x256 .f32} {f g : Fin 32 → Fin 256 → EReal} (hp : ∀ b k, p (ix2 b k) = f b k) (hq : ∀ b k, q (ix2 b k) = g b k)
    (h : Shape.Concatenates [S32x256, S32x256] S32x512 1) (b : Fin 32) (k : Fin 512) :
    concatenate S32x512 1 [⟨S32x256, p⟩, ⟨S32x256, q⟩] h (ix2 b k)
      = if hk : k.val < 256 then f b ⟨k.val, hk⟩ else g b ⟨k.val - 256, by omega⟩ := by
  split
  · next hk =>
    exact (concatenate_pair_apply_left (t := S32x512) (s₁ := S32x256) (s₂ := S32x256) 1 p q h (ix2 b k) rfl (ix2 b (⟨k.val, hk⟩ : Fin 256))
      fun (x : Fin 2) => match x with | ⟨0, _⟩ => rfl | ⟨1, _⟩ => rfl).trans (hp _ _)
  · next hk =>
    exact (concatenate_pair_apply_right (t := S32x512) (s₁ := S32x256) (s₂ := S32x256) 1 p q h (ix2 b k) rfl rfl
      (ix2 b (⟨k.val - 256, by omega⟩ : Fin 256)) (fun (x : Fin 2) => match x with | ⟨0, _⟩ => fun _ => rfl | ⟨1, _⟩ => fun hne => absurd rfl hne)
      (by show k.val - 256 + 256 = k.val; omega)).trans (hq _ _)

section
variable {x0 : FVec Ideal S32x512x3 .f32} {x1 x2 x3 : FVec Ideal S6x64 .f32} {x4 : FVec Ideal S3x64 .f32}
  {x5 x6 x7 : FVec Ideal S128x64 .f32} {x8 : FVec Ideal S3x64 .f32} {x9 x10 x11 : FVec Ideal S128x128 .f32} {x12 : FVec Ideal S3x128 .f32}
  {X : Fin 32 → Fin 512 → Fin 3 → ℝ} {Q1 K1 V1 : Fin 6 → Fin 64 → ℝ} {P1 : Fin 3 → Fin 64 → ℝ}
  {Q2 K2 V2 : Fin 128 → Fin 64 → ℝ} {P2 : Fin 3 → Fin 64 → ℝ} {Q3 K3 V3 : Fin 128 → Fin 128 → ℝ} {P3 : Fin 3 → Fin 128 → ℝ}
  (H : Entries x0 x1 x2 x3 x4 x5 x6 x7 x8 x9 x10 x11 x12 X Q1 K1 V1 P1 Q2 K2 V2 P2 Q3 K3 V3 P3)
include H

theorem joined : C3 32 256 512 (val_main_v160 (F := Ideal) x0 x1 x2 x3 x4 x5 x6 x7 x8 x9 x10 x11 x12) fun b k n =>
    feats (out1 (X b) Q1 K1 V1 P1) (out2 (X b) Q1 K1 V1 P1 Q2 K2 V2 P2) (out3 (X b) Q1 K1 V1 P1 Q2 K2 V2 P2 Q3 K3 V3 P3) n k := by
  have h0 : C3 32 512 3 x0 X := fun i => by
    have e : i = ix3 (i 0) (i 1) (i 2) := funext fun (a : Fin 3) => match a with | ⟨0, _⟩ => rfl | ⟨1, _⟩ => rfl | ⟨2, _⟩ => rfl
    exact (congrArg x0 e).trans (H.x (i 0) (i 1) (i 2))
  have c1 : C3 32 64 512 (val_main_v53 (F := Ideal) x0 x1 x2 x3 x4) fun b j n => out1 (X b) Q1 K1 V1 P1 n j :=
    One.out h0 H.p1 H.q1 H.k1 H.v1
  have c2 : C3 32 64 512 (val_main_v106 (F := Ideal) x0 x1 x2 x3 x4 x5 x6 x7 x8)
      fun b j n => out2 (X b) Q1 K1 V1 P1 Q2 K2 V2 P2 n j := Two.out c1 h0 H.p2 H.q2 H.k2 H.v2
  have c3 : C3 32 128 512 (val_main_v159 (F := Ideal) x0 x1 x2 x3 x4 x5 x6 x7 x8 x9 x10 x11 x12)
      fun b j n => out3 (X b) Q1 K1 V1 P1 Q2 K2 V2 P2 Q3 K3 V3 P3 n j := Three.out c2 h0 H.p3 H.q3 H.k3 H.v3
  exact join_feats c1 c2 c3 _

theorem largest (b : Fin 32) (k : Fin 256) : val_main_v161 (F := Ideal) x0 x1 x2 x3 x4 x5 x6 x7 x8 x9 x10 x11 x12 (ix2 b k)
    = Finset.univ.fold max ⊥ (fun n => ((feats (out1 (X b) Q1 K1 V1 P1) (out2 (X b) Q1 K1 V1 P1 Q2 K2 V2 P2)
        (out3 (X b) Q1 K1 V1 P1 Q2 K2 V2 P2 Q3 K3 V3 P3) n k : ℝ) : EReal)) :=
  max_points (joined H) reducesTo_S32x256x512_S32x256_d2 h_S_ (by decide) (by decide) rfl (ix2 b k)

theorem means (b : Fin 32) (k : Fin 256) : val_main_v164 (F := Ideal) x0 x1 x2 x3 x4 x5 x6 x7 x8 x9 x10 x11 x12 (ix2 b k)
    = (((∑ n, feats (out1 (X b) Q1 K1 V1 P1) (out2 (X b) Q1 K1 V1 P1 Q2 K2 V2 P2)
        (out3 (X b) Q1 K1 V1 P1 Q2 K2 V2 P2 Q3 K3 V3 P3) n k) / 512 : ℝ) : EReal) := by
  refine (val_main_v164_apply (F := Ideal) x0 x1 x2 x3 x4 x5 x6 x7 x8 x9 x10 x11 x12 (ix2 b k)).trans (mean_word _ _ ?_ ?_)
  · refine (val_main_v162_apply x0 x1 x2 x3 x4 x5 x6 x7 x8 x9 x10 x11 x12 (ix2 b k)).trans ?_
    exact zero_sum _ word_zero _ _ fun n => joined H (idx_main_v162 (ix2 b k) n)
  · exact (val_main_v163_apply (F := Ideal) (ix2 b k)).trans (val_main_cst_26_apply (F := Ideal) _)

/-- **What the reference computes.** -/
theorem reference_apply (b : Fin 32) (k : Fin 512) :
    val_main_v166 (F := Ideal) x0 x1 x2 x3 x4 x5 x6 x7 x8 x9 x10 x11 x12 (ix3 b (0 : Fin 1) k)
      = result (X b) Q1 K1 V1 P1 Q2 K2 V2 P2 Q3 K3 V3 P3 k := by
  refine (val_main_v166_apply (F := Ideal) x0 x1 x2 x3 x4 x5 x6 x7 x8 x9 x10 x11 x12 (ix3 b (0 : Fin 1) k)).trans ?_
  have e0 : idx_main_v166 (ix3 b (0 : Fin 1) k) = ix2 b k := funext fun (a : Fin 2) => match a with | ⟨0, _⟩ => rfl | ⟨1, _⟩ => rfl
  rw [e0]
  exact halves (largest H) (means H) concatenates_S32x256_S32x256_S32x512_d1 b k

end

end Cloud

end
-- ==== Proof.Finite.lean ====
/-
  The precondition: every entry of every argument is a real.
-/
module

public import proofs.«01_k».proof.Proof.KernelValue
public import proofs.«01_k».proof.Proof.Gen.Pre_finite
public import Idealize.ShloMosaic.Lib.ReduceAll

@[expose] public section

noncomputable section

namespace Cloud

open Idealize.ShloMosaic Idealize.ShloMosaic.ValueIdx Cert.Pre_finite Cert.Pre_finite.Gen

theorem real_of_below (x : EReal) (h : max x (-x) < ⊤) : x = ((x.toReal : ℝ) : EReal) := by
  refine (EReal.coe_toReal (fun e => ?_) fun e => ?_).symm
  · rw [e] at h
    exact absurd h (by simp)
  · rw [e] at h
    exact absurd h (by simp)

/-- One argument's test: all its entries' sizes lie below the top. -/
theorem entries_real {s : Shape} {dims : List (Fin s.rank)} (a : FVec Ideal s .f32) (hb : S_.BroadcastsInDim s (![] : Fin 0 → Fin s.rank))
    (hr : s.ReducesTo dims S_) (hu : 0 < S_.numel) (j : S_.Idx)
    (h : Host.reduce IntOp.andi (cmpf .olt (Host.absf a) (broadcastInDim s ![] hb (constant (F := Ideal) S_ .f32 0x7F800000#32))) (constantI S_ 1 1#1) hr hu j = 1#1)
    (i : s.Idx) : a i = (((a i).toReal : ℝ) : EReal) := by
  haveI : Subsingleton S_.Idx := ⟨fun x y => funext fun k => k.elim0⟩
  have h1 := Host.reduce_andi_all _ _ hr hu j h i
  refine real_of_below _ ?_
  have h2 : BitVec.ofBool (decide (max (a i) (-(a i)) < Ideal.ofBits .f32 0x7F800000#32)) = 1#1 := h1
  rw [word_top] at h2
  by_contra hn
  rw [decide_eq_false hn] at h2
  exact absurd h2 (by decide)

theorem and_split {a b : IVec S_ 1} {j : S_.Idx} (h : andi a b j = 1#1) : a j = 1#1 ∧ b j = 1#1 := IntOp.andi_eq_one.1 h

/-- **Finite arguments have real entries.** -/
theorem entries_of_finite (a0 : FVec Ideal S32x512x3 .f32) (a1 a2 a3 : FVec Ideal S6x64 .f32) (a4 : FVec Ideal S3x64 .f32)
    (a5 a6 a7 : FVec Ideal S128x64 .f32) (a8 : FVec Ideal S3x64 .f32) (a9 a10 a11 : FVec Ideal S128x128 .f32)
    (a12 : FVec Ideal S3x128 .f32) (j : S_.Idx) (h : fn (F := Ideal) a0 a1 a2 a3 a4 a5 a6 a7 a8 a9 a10 a11 a12 j = 1#1) :
    ∃ X Q1 K1 V1 P1 Q2 K2 V2 P2 Q3 K3 V3 P3, Entries a0 a1 a2 a3 a4 a5 a6 a7 a8 a9 a10 a11 a12 X Q1 K1 V1 P1 Q2 K2 V2 P2 Q3 K3 V3 P3 := by
  unfold fn fn_part1 fn_part2 fn_part3 at h
  obtain ⟨h, h12⟩ := and_split h
  obtain ⟨h, h11⟩ := and_split h
  obtain ⟨h, h10⟩ := and_split h
  obtain ⟨h, h9⟩ := and_split h
  obtain ⟨h, h8⟩ := and_split h
  obtain ⟨h, h7⟩ := and_split h
  obtain ⟨h, h6⟩ := and_split h
  obtain ⟨h, h5⟩ := and_split h
  obtain ⟨h, h4⟩ := and_split h
  obtain ⟨h, h3⟩ := and_split h
  obtain ⟨h, h2⟩ := and_split h
  obtain ⟨h0, h1⟩ := and_split h
  exact ⟨_, _, _, _, _, _, _, _, _, _, _, _, _,
    { x := fun b n k => entries_real a0 _ _ _ j h0 (ix3 b n k)
      q1 := fun n k => entries_real a1 _ _ _ j h1 (ix2 n k)
      k1 := fun n k => entries_real a2 _ _ _ j h2 (ix2 n k)
      v1 := fun n k => entries_real a3 _ _ _ j h3 (ix2 n k)
      p1 := fun n k => entries_real a4 _ _ _ j h4 (ix2 n k)
      q2 := fun n k => entries_real a5 _ _ _ j h5 (ix2 n k)
      k2 := fun n k => entries_real a6 _ _ _ j h6 (ix2 n k)
      v2 := fun n k => entries_real a7 _ _ _ j h7 (ix2 n k)
      p2 := fun n k => entries_real a8 _ _ _ j h8 (ix2 n k)
      q3 := fun n k => entries_real a9 _ _ _ j h9 (ix2 n k)
      k3 := fun n k => entries_real a10 _ _ _ j h10 (ix2 n k)
      v3 := fun n k => entries_real a11 _ _ _ j h11 (ix2 n k)
      p3 := fun n k => entries_real a12 _ _ _ j h12 (ix2 n k) }⟩

end Cloud

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import Idealize.ShloMosaic.Adequacy
public import Idealize.ShloMosaic.Init
public import Idealize.ShloMosaic.Lib.Quiescent
public import proofs.«01_k».proof.Proof.RefPool
public import proofs.«01_k».proof.Proof.Finite

@[expose] public section

noncomputable section

namespace Cert.Proof

open Idealize.ShloMosaic Idealize.ShloMosaic.ValueIdx Idealize.SL.Sem

/-- The reference has no semaphore, and its run leaves its arguments as they were. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On finite arguments the reference's result is the array that the kernel leaves: at every index both are the same pooled feature. -/
theorem same_array (m : (ℓ : Loc Cert.KernelIdeal.nD Cert.KernelIdeal.τ Cert.KernelIdeal.sig) → Buf (Elt Ideal) ℓ) (hm : Cert.Pre_KernelIdeal_finite m)
    (c : Dev Cert.KernelIdeal.nD) :
    Cert.ReferenceIdeal.Read.val_main_v166 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      = (Cert.KernelIdeal.Gen.dats m 0 c).arrAt 10 Cert.KernelIdeal.cfg0.N := by
  obtain ⟨X, Q1, K1, V1, P1, Q2, K2, V2, P2, Q3, K3, V3, P3, H⟩ := Cloud.entries_of_finite _ _ _ _ _ _ _ _ _ _ _ _ _ (fun k => k.elim0)
    (congrFun (hm c) _)
  funext i
  have e : i = ix3 (i 0) (0 : Fin 1) (i 2) := funext fun (a : Fin 3) => match a with
    | ⟨0, _⟩ => rfl
    | ⟨1, _⟩ => Subsingleton.elim (α := Fin 1) _ _
    | ⟨2, _⟩ => rfl
  rw [e]
  exact (Cloud.reference_apply H (i 0) (i 2)).trans (Cloud.kernel_apply m c H (i 0) (i 2)).symm

open Cert.ReferenceIdeal in
theorem same_term (V0 : Valuation τ sig (Elt Ideal)) (y0 : FVec Ideal S32x512x3 .f32) (y1 y2 y3 : FVec Ideal S6x64 .f32) (y4 : FVec Ideal S3x64 .f32)
    (y5 y6 y7 : FVec Ideal S128x64 .f32) (y8 : FVec Ideal S3x64 .f32) (y9 y10 y11 : FVec Ideal S128x128 .f32) (y12 : FVec Ideal S3x128 .f32)
    (h0 : V0 (Proc.devRef .tc main_arg0) = y0)
    (h1 : V0 (Proc.devRef .tc main_arg1) = y1)
    (h2 : V0 (Proc.devRef .tc main_arg2) = y2)
    (h3 : V0 (Proc.devRef .tc main_arg3) = y3)
    (h4 : V0 (Proc.devRef .tc main_arg4) = y4)
    (h5 : V0 (Proc.devRef .tc main_arg5) = y5)
    (h6 : V0 (Proc.devRef .tc main_arg6) = y6)
    (h7 : V0 (Proc.devRef .tc main_arg7) = y7)
    (h8 : V0 (Proc.devRef .tc main_arg8) = y8)
    (h9 : V0 (Proc.devRef .tc main_arg9) = y9)
    (h10 : V0 (Proc.devRef .tc main_arg10) = y10)
    (h11 : V0 (Proc.devRef .tc main_arg11) = y11)
    (h12 : V0 (Proc.devRef .tc main_arg12) = y12) :
    Read.val_main_v166 (F := Ideal) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12))
      = Read.val_main_v166 (F := Ideal) y0 y1 y2 y3 y4 y5 y6 y7 y8 y9 y10 y11 y12 := by
  subst h0 h1 h2 h3 h4 h5 h6 h7 h8 h9 h10 h11 h12
  rfl

theorem algebraic : Cert.algebraic_KernelIdeal_ReferenceIdeal_pre_finite := by
  intro m ρ m' ρ' hm hagree
  refine ⟨fun c => (Cert.KernelIdeal.Gen.dats m 0 c).arrAt 10 Cert.KernelIdeal.cfg0.N, Cert.KernelIdeal.Value.run_blocks (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12⟩ := hagree c
  refine (Cert.ReferenceIdeal.Read.val_main_v166_eq (F := Ideal) (StableHlo.launchContents m' c)).trans ?_
  exact (same_term _ _ _ _ _ _ _ _ _ _ _ _ _ _ e0 e1 e2 e3 e4 e5 e6 e7 e8 e9 e10 e11 e12).trans (same_array m hm c)

theorem claim : Cert.Claim := ⟨Cert.Kernel.Gen.facts, Cert.KernelIdeal.Gen.facts, Cert.ReferenceIdeal.Gen.facts, Cert.Pre_finite.Gen.facts,
  fun m ρ _ => Cert.Kernel.Gen.frame m ρ, fun m ρ _ => Cert.KernelIdeal.Gen.frame m ρ, fun m ρ _ => Cert.KernelIdeal.Gen.frame m ρ,
  frame_ri, fun m ρ _ => frame_ri m ρ trivial,
  ⟨IdealRules.named_const.statement Cert.KernelIdeal.κ "taken" .f32 0xFF61B1E6#32 ⊥ rfl,
    IdealRules.named_const.statement Cert.KernelIdeal.κ "inv_sqrt_128" .f32 0x3DB504F3#32 (((Real.sqrt 128)⁻¹ : ℝ) : EReal) rfl⟩,
  algebraic⟩

end Cert.Proof

end
